-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_n" .f32 0x3A2AAAAB#32 ((1536⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1536, 1]⟩ ⟨2, ![3072, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S12x128 : Shape := ⟨2, ![12, 128]⟩
abbrev S6x256x768 : Shape := ⟨3, ![6, 256, 768]⟩
abbrev S16x128 : Shape := ⟨2, ![16, 128]⟩
abbrev S6 : Shape := ⟨1, ![6]⟩
abbrev S2 : Shape := ⟨1, ![2]⟩
abbrev S_ : Shape := ⟨0, ![]⟩
abbrev S1 : Shape := ⟨1, ![1]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S2x128 : Shape := ⟨2, ![2, 128]⟩
abbrev S6x128 : Shape := ⟨2, ![6, 128]⟩
abbrev S1536x1 : Shape := ⟨2, ![1536, 1]⟩

abbrev nBuf : Space → Nat
  | .hbm => 3
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S12x128, .f32⟩
  | .hbm, ⟨2, _⟩ => ⟨S1536x1, .f32⟩
  | .local _ .vmem, ⟨0, _⟩ => ⟨S12x128, .f32⟩
  | .local _ .vmem, ⟨1, _⟩ => ⟨S6x256x768, .f32⟩
  | .local _ .vmem, ⟨2, _⟩ => ⟨S12x128, .f32⟩
  | .local _ .vmem, ⟨3, _⟩ => ⟨S16x128, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v81 : BitVec 32 := Scalar.muli v2 c2_i32_68
  let v82 : BitVec 32 := Scalar.addi c0_i32_69 v81
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v83 : BitVec 32 := Scalar.muli v6 c1_i32_70
  let v84 : BitVec 32 := Scalar.addi v82 v83
  v84.toNat
def k0_dev3 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v130 : BitVec 32 := Scalar.muli v2 c2_i32_108
  let v131 : BitVec 32 := Scalar.addi c0_i32_109 v130
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_110 : BitVec 32 := 1#32
  let v132 : BitVec 32 := Scalar.muli v6 c1_i32_110
  let v133 : BitVec 32 := Scalar.addi v131 v132
  v133.toNat
abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "inv_n" => some ((1536⁻¹ : ℝ) : EReal)
  | _ => none
-- ==== ReferenceIdeal.lean ====
abbrev S3072x1536 : Shape := ⟨2, ![3072, 1536]⟩
abbrev S_ : Shape := ⟨0, ![]⟩
abbrev S3072 : Shape := ⟨1, ![3072]⟩
abbrev S3072x1 : Shape := ⟨2, ![3072, 1]⟩

abbrev nBuf : Space → Nat
  | .hbm => 7
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S3072, .f32⟩
  | .hbm, ⟨3, _⟩ => ⟨S3072x1, .f32⟩
  | .hbm, ⟨4, _⟩ => ⟨S_, .f32⟩
  | .hbm, ⟨5, _⟩ => ⟨S3072x1, .f32⟩
  | .hbm, ⟨6, _⟩ => ⟨S3072x1, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KernelIdealProto.lean ====
/-
  The protocol of the row-mean kernel, generic in the float instance.

  Four devices form a 2 × 2 mesh; device `c` talks to its row mate `peer c` only. It signals the mate's barrier
  semaphore, sums its own 1536 × 768 block row by row (six local copies of 256 rows, each summed as it lands), and
  sends the sums in two halves of six 128-lane rows to the mate: the first half once the mate has signalled, the second
  once it is made. Having received both halves it adds them to its own and scales.

  Here: the buffers and semaphores by name, what each buffer holds when it changes hands, the schedule of what each
  semaphore's units hand over, what each device owes at the start, and the order in which it may wait.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pointwise.Index
public import Idealize.ShloMosaic.Lib.Pipeline.RegionTalk
public import Idealize.ShloMosaic.Lib.Transfers
public import Idealize.ShloMosaic.Lib.Tactic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

/-! ## The devices -/

/-- The row mate: the other device of the same mesh row. -/
def peer (c : Dev nD) : Dev nD :=
  ⟨2 * (c.val / 2) + (1 - c.val % 2), by have := c.isLt; unfold nD at *; omega⟩

/-- The mate's mate is the device itself. -/
theorem peer_peer (c : Dev nD) : peer (peer c) = c := by revert c; decide
/-- Taking the mate, as a permutation of the devices. -/
def swap : Dev nD ≃ Dev nD := ⟨peer, peer, peer_peer, peer_peer⟩

/-- The device the barrier signal addresses is the mate. -/
theorem dev1_eq (c : Dev nD) : (⟨k0_dev1 c, k0_dev1_lt c⟩ : Dev nD) = peer c :=
  Fin.ext ((k0_dev1_eq c).trans (by revert c; decide))
/-- The device the first send addresses is the mate. -/
theorem dev2_eq (c : Dev nD) : (⟨k0_dev2 c, k0_dev2_lt c⟩ : Dev nD) = peer c :=
  Fin.ext ((k0_dev2_eq c).trans (by revert c; decide))
/-- The device the second send addresses is the mate. -/
theorem dev3_eq (c : Dev nD) : (⟨k0_dev3 c, k0_dev3_lt c⟩ : Dev nD) = peer c :=
  Fin.ext ((k0_dev3_eq c).trans (by revert c; decide))

/-! ## The resource algebra: the pipeline's rounds, the kernel's own rounds, the local copies' counters -/

/-- The three components side by side. -/
abbrev UU : Type := UR sig nD τ × (UR sig nD τ × Counters)

/-- The machine's algebra over these components. -/
local notation "𝕄" => MT nD τ sig Unit (Elt F) ℕ UU ℕ

/-- The pipeline's component. -/
abbrev EP : Emb (UR sig nD τ) (MT nD τ sig Unit (Elt F) ℕ UU ℕ) := embL
/-- The kernel's own component. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb
/-- The schedule's records live in the user part of the resources. -/
instance ER_landsIn : (ER : Emb (UR sig nD τ) 𝕄).LandsIn (upEmb : UEmb _ 𝕄) := by unfold ER; infer_instance

variable (m : (ℓ : Loc nD τ sig) → Buf (Elt F) ℓ)

/-! ## Buffers, semaphores, cells -/

/-- The device's block of the argument. -/
abbrev xM : Memref sig .tc .hbm S1536x768 .f32 := Memref.whole main_arg0
/-- The six landing pads of the local copies. -/
abbrev bufM : Memref sig .tc .vmem S6x256x768 .f32 := Memref.whole cc0_scratch0
/-- The device's own row sums. -/
abbrev accM : Memref sig .tc .vmem S12x128 .f32 := Memref.whole cc0_scratch1
/-- The mate's row sums, where they arrive. -/
abbrev comM : Memref sig .tc .vmem S16x128 .f32 := Memref.whole cc0_scratch2
/-- The result's staging buffer. -/
abbrev outM : Memref sig .tc .vmem S12x128 .f32 := Memref.whole cc0_stg0_0

/-- The first half of the own sums; -/
abbrev accLo : Memref sig .tc .vmem S6x128 .f32 :=
  accM.slice (Rect.unit (s := S12x128) ![0, 0] S6x128.size inb_S12x128_S6x128_0_0) (fun _ => rfl)
/-- the second. -/
abbrev accHi : Memref sig .tc .vmem S6x128 .f32 :=
  accM.slice (Rect.unit (s := S12x128) ![6, 0] S6x128.size inb_S12x128_S6x128_6_0) (fun _ => rfl)
/-- Where the mate's first half arrives; -/
abbrev comLo : Memref sig .tc .vmem S6x128 .f32 :=
  comM.slice (Rect.unit (s := S16x128) ![0, 0] S6x128.size inb_S16x128_S6x128_0_0) (fun _ => rfl)
/-- the second. -/
abbrev comHi : Memref sig .tc .vmem S6x128 .f32 :=
  comM.slice (Rect.unit (s := S16x128) ![6, 0] S6x128.size inb_S16x128_S6x128_6_0) (fun _ => rfl)

/-- The barrier semaphore. -/
abbrev barS : Sem sig := (SemArray.scalar (sig.barrier 0 rfl) : Sems sig S_).sem
/-- The first half has left; -/
abbrev sendS0 : DmaSem sig := ((cc0_scratch4.slice (Rect.unit (s := S2) ![0] S1.size inb_S2_S1_0)).squeeze S_ squeezes_S1_S_).sem
/-- the second. -/
abbrev sendS1 : DmaSem sig := ((cc0_scratch4.slice (Rect.unit (s := S2) ![1] S1.size inb_S2_S1_1)).squeeze S_ squeezes_S1_S_).sem
/-- The mate's first half has arrived; -/
abbrev recvS0 : DmaSem sig := ((cc0_scratch5.slice (Rect.unit (s := S2) ![0] S1.size inb_S2_S1_0)).squeeze S_ squeezes_S1_S_).sem
/-- the second. -/
abbrev recvS1 : DmaSem sig := ((cc0_scratch5.slice (Rect.unit (s := S2) ![1] S1.size inb_S2_S1_1)).squeeze S_ squeezes_S1_S_).sem

/-- A device's barrier counter. -/
abbrev barCell (c : Dev nD) : GSem nD τ sig := ((c : Thread nD τ), .reg barS)
/-- A device's counter for its first half having left. -/
abbrev send0 (c : Dev nD) : GSem nD τ sig := ((c : Thread nD τ), .dma sendS0)
/-- A device's counter for its second half having left. -/
abbrev send1 (c : Dev nD) : GSem nD τ sig := ((c : Thread nD τ), .dma sendS1)
/-- A device's counter for the mate's first half having landed. -/
abbrev recv0 (c : Dev nD) : GSem nD τ sig := ((c : Thread nD τ), .dma recvS0)
/-- A device's counter for the mate's second half having landed. -/
abbrev recv1 (c : Dev nD) : GSem nD τ sig := ((c : Thread nD τ), .dma recvS1)

/-- The units one half's transfer credits. -/
abbrev N : ℕ := (accLo : Memref sig .tc .vmem S6x128 .f32).view.dmaCredit
/-- A transfer's credit is positive. -/
theorem N_pos : 0 < N := View.dmaCredit_pos _ (by decide)

/-! ## Contents -/

/-- The device's block of the argument, as launched. -/
def xin (c : Dev nD) : (main_arg0 : Ref sig .tc).ty.Contents (Elt F) := m ((c : Thread nD τ).loc main_arg0)

/-- The 256 rows of the block the `k`-th local copy brings in. -/
def blk (c : Dev nD) (k : Fin 6) : Vec F S1x256x768 .f32 := fun i =>
  xin m c (ix2 (n0 := 1536) (n1 := 768) ⟨256 * k.val + (i 1).val, by have h : (i 1).val < 256 := (i 1).isLt; have := k.isLt; omega⟩ (i 2))

/-- Their row sums, as two rows of 128. -/
def part (c : Dev nD) (k : Fin 6) : Vec F S2x128 .f32 := k0_pay4 (blk m c k)

/-- All of the block's row sums, as twelve rows of 128. -/
def accV (c : Dev nD) : (cc0_scratch1 : Ref sig .tc).ty.Contents (Elt F) := fun (i : S12x128.Idx) =>
  part m c ⟨(i 0).val / 2, by have h : (i 0).val < 12 := (i 0).isLt; omega⟩
    (ix2 (n0 := 2) (n1 := 128) ⟨(i 0).val % 2, Nat.mod_lt _ (by decide)⟩ (i 1))

/-- What arrives from the mate: its row sums in the first twelve rows (the last four are never read). -/
def comV (c : Dev nD) : (cc0_scratch2 : Ref sig .tc).ty.Contents (Elt F) := fun (i : S16x128.Idx) =>
  accV m (peer c) (ix2 (n0 := 12) (n1 := 128) ⟨min (i 0).val 11, by omega⟩ (i 1))

/-- A part of a buffer on device `c`, held through the memref over it. -/
abbrev pts {sp : Space} {s : Shape} (M : Memref sig .tc sp s .f32) (c : Dev nD) (f : Buf (Elt F) (M.view.loc (c : Thread nD τ))) : sProp 𝕄 :=
  M.view.loc (c : Thread nD τ) ↦[M.view.set]{fullShare} f

/-! ## The schedule -/

/-- The mate's signal: its landing area for both halves, and that its arrival cells are open. -/
def barPay (c : Dev nD) : sProp 𝕄 :=
  iprop((∃ f, pts comLo (peer c) f) ∗ (∃ f, pts comHi (peer c) f) ∗ reached ER (recv0 (peer c)) 0 ∗ reached ER (recv1 (peer c)) 0)

/-- The cells the kernel's protocol runs on. -/
abbrev IsCell (g : GSem nD τ sig) : Prop :=
  g.1.2 = .tc ∧ (g.2 = .reg barS ∨ g.2 = .dma sendS0 ∨ g.2 = .dma sendS1 ∨ g.2 = .dma recvS0 ∨ g.2 = .dma recvS1)

/-- One round on each cell, of one duty: the barrier's hands over the landing area, a departure's gives the half back,
    an arrival's gives the landed half. -/
def rd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma sendS0 then pts accLo g.1.1 (accV m g.1.1)
    else if g.2 = .dma sendS1 then pts accHi g.1.1 (accV m g.1.1)
    else if g.2 = .dma recvS0 then pts comLo g.1.1 (comV m g.1.1)
    else if g.2 = .dma recvS1 then pts comHi g.1.1 (comV m g.1.1)
    else iprop(emp)
  amount_pos g _ _ _ := by
    by_cases h : g.2 = .reg barS
    · rw [if_pos h]; exact Nat.one_pos
    · rw [if_neg h]; exact N_pos

/-- What the schedule hands over can be kept in an invariant. -/
instance rd_payload_storable (g : GSem nD τ sig) (r : ℕ) (d : Unit) :
    BI.Storable (upEmb : UEmb _ 𝕄) ((rd (F := F) m).payload g r d) := by
  dsimp only [rd]
  unfold barPay
  (repeat' split) <;> infer_instance

section Sched

variable (c : Dev nD)

/-- No transfer's counter is the barrier's. -/
theorem dma_ne_bar (q : DmaSem sig) : (SemLoc.dma q : SemLoc sig) ≠ .reg barS := fun h => by cases h
/-- Two of the counters, told apart. -/
theorem send1_ne : (SemLoc.dma sendS1 : SemLoc sig) ≠ .dma sendS0 := by decide
/-- Two of the counters, told apart. -/
theorem recv0_ne0 : (SemLoc.dma recvS0 : SemLoc sig) ≠ .dma sendS0 := by decide
/-- Two of the counters, told apart. -/
theorem recv0_ne1 : (SemLoc.dma recvS0 : SemLoc sig) ≠ .dma sendS1 := by decide
/-- Two of the counters, told apart. -/
theorem recv1_ne0 : (SemLoc.dma recvS1 : SemLoc sig) ≠ .dma sendS0 := by decide
/-- Two of the counters, told apart. -/
theorem recv1_ne1 : (SemLoc.dma recvS1 : SemLoc sig) ≠ .dma sendS1 := by decide
/-- Two of the counters, told apart. -/
theorem recv1_ne : (SemLoc.dma recvS1 : SemLoc sig) ≠ .dma recvS0 := by decide

/-- One signal is owed to the barrier. -/
theorem duties_bar : (rd (F := F) m).duties (barCell c) 0 = {()} := by dsimp only [rd]; exact if_pos ⟨rfl, rfl, .inl rfl⟩
/-- One credit is owed for the first half's departure. -/
theorem duties_send0 : (rd (F := F) m).duties (send0 c) 0 = {()} := by dsimp only [rd]; exact if_pos ⟨rfl, rfl, .inr (.inl rfl)⟩
/-- One credit is owed for the second half's departure. -/
theorem duties_send1 : (rd (F := F) m).duties (send1 c) 0 = {()} := by dsimp only [rd]; exact if_pos ⟨rfl, rfl, .inr (.inr (.inl rfl))⟩
/-- One credit is owed for the first half's arrival. -/
theorem duties_recv0 : (rd (F := F) m).duties (recv0 c) 0 = {()} := by
  dsimp only [rd]; exact if_pos ⟨rfl, rfl, .inr (.inr (.inr (.inl rfl)))⟩
/-- One credit is owed for the second half's arrival. -/
theorem duties_recv1 : (rd (F := F) m).duties (recv1 c) 0 = {()} := by
  dsimp only [rd]; exact if_pos ⟨rfl, rfl, .inr (.inr (.inr (.inr rfl)))⟩
/-- No cell has a second round. -/
theorem duties_later (g : GSem nD τ sig) : ∀ r, 1 ≤ r → (rd (F := F) m).duties g r = ∅ :=
  fun r hr => by dsimp only [rd]; rw [if_neg (fun h => by omega)]

/-- The barrier's signal counts one. -/
theorem amount_bar (u : Unit) : (rd (F := F) m).amount (barCell c) 0 u = 1 := by dsimp only [rd]; exact if_pos rfl
/-- A transfer's credit is the size of a half. -/
theorem amount_dma (q : DmaSem sig) (u : Unit) : (rd (F := F) m).amount ((c : Thread nD τ), .dma q) 0 u = N := by
  dsimp only [rd]; exact if_neg (dma_ne_bar q)

/-- The barrier's round is one unit. -/
theorem expect_bar : (rd (F := F) m).expect (barCell c) 0 = 1 := by
  unfold Schedule.expect Schedule.amountOf; rw [duties_bar, Finset.sum_singleton, amount_bar]
/-- A transfer's round is the size of a half. -/
theorem expect_dma (q : DmaSem sig) (h : (rd (F := F) m).duties ((c : Thread nD τ), .dma q) 0 = {()}) :
    (rd (F := F) m).expect ((c : Thread nD τ), .dma q) 0 = N := by
  unfold Schedule.expect Schedule.amountOf; rw [h, Finset.sum_singleton, amount_dma]

/-- The barrier's signal hands over the signaller's landing area. -/
theorem payload_bar (u : Unit) : (rd (F := F) m).payload (barCell c) 0 u = barPay c := by dsimp only [rd]; exact if_pos rfl
/-- The first half's departure gives its rows of the own sums back. -/
theorem payload_send0 (u : Unit) : (rd (F := F) m).payload (send0 c) 0 u = pts accLo c (accV m c) := by
  dsimp only [rd]; rw [if_neg (dma_ne_bar _), if_pos rfl]
/-- The second half's departure gives its rows of the own sums back. -/
theorem payload_send1 (u : Unit) : (rd (F := F) m).payload (send1 c) 0 u = pts accHi c (accV m c) := by
  dsimp only [rd]; rw [if_neg (dma_ne_bar _), if_neg send1_ne, if_pos rfl]
/-- The first half's arrival hands over its rows, holding the mate's sums. -/
theorem payload_recv0 (u : Unit) : (rd (F := F) m).payload (recv0 c) 0 u = pts comLo c (comV m c) := by
  dsimp only [rd]; rw [if_neg (dma_ne_bar _), if_neg recv0_ne0, if_neg recv0_ne1, if_pos rfl]
/-- The second half's arrival hands over its rows, holding the mate's sums. -/
theorem payload_recv1 (u : Unit) : (rd (F := F) m).payload (recv1 c) 0 u = pts comHi c (comV m c) := by
  dsimp only [rd]; rw [if_neg (dma_ne_bar _), if_neg recv1_ne0, if_neg recv1_ne1, if_neg recv1_ne, if_pos rfl]

/-- A cell's round hands over its one payload. -/
theorem rest_of (g : GSem nD τ sig) (P : sProp 𝕄) (h : (rd (F := F) m).duties g 0 = {()}) (hp : ∀ u, (rd (F := F) m).payload g 0 u = P) :
    bigSep ((rd (F := F) m).duties g 0 \ ∅) (fun u => (rd (F := F) m).payload g 0 u) = P := by
  rw [Finset.sdiff_empty, h, bigSep_singleton, hp]

end Sched

/-! ## What each device owes at the start; the levels -/

/-- Both halves' arrivals at the mate; -/
def O₂ (c : Dev nD) : CellTallies nD τ sig Unit := tallyAt (recv1 (peer c)) () N + tallyAt (recv0 (peer c)) () N
/-- and the mate's barrier unit. -/
def O₀ (c : Dev nD) : CellTallies nD τ sig Unit := O₂ c + tallyAt (barCell (peer c)) () 1

/-- The labels under which a counter is owed to: one on the main core, none elsewhere. -/
def L (g : GSem nD τ sig) : Finset Unit := if g.1.2 = .tc then {()} else ∅
/-- Arrival cells above the barrier cells, these above the rest. -/
def lv (g : GSem nD τ sig) (_ : Unit) : ℕ := if g.2 = .reg barS then 1 else if g.2 = .dma recvS0 ∨ g.2 = .dma recvS1 then 2 else 0

/-- Nothing is owed off the main core. -/
theorem L_of_ne (g : GSem nD τ sig) (h : g.1.2 ≠ .tc) : L g = ∅ := if_neg h
/-- The main core's counters have the one label. -/
theorem L_tc (c : Dev nD) (sm : SemLoc sig) : L ((c : Thread nD τ), sm) = {()} := if_pos rfl

/-- A debt to one counter is a debt to no other. -/
theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

/-- After the barrier a device owes only the two arrivals at its mate. -/
theorem O₂_pos {c : Dev nD} {g : GSem nD τ sig} {u : Unit} (h : 0 < O₂ c g u) : g = recv1 (peer c) ∨ g = recv0 (peer c) := by
  unfold O₂ at h
  rw [Pi.add_apply, Finsupp.add_apply] at h
  rcases Nat.add_pos_iff_pos_or_pos.mp h with h | h
  · exact .inl (tally_pos h)
  · exact .inr (tally_pos h)
/-- At the start a device owes the barrier and the two arrivals, all at its mate. -/
theorem O₀_pos {c : Dev nD} {g : GSem nD τ sig} {u : Unit} (h : 0 < O₀ c g u) :
    (g = recv1 (peer c) ∨ g = recv0 (peer c)) ∨ g = barCell (peer c) := by
  unfold O₀ at h
  rw [Pi.add_apply, Finsupp.add_apply] at h
  rcases Nat.add_pos_iff_pos_or_pos.mp h with h | h
  · exact .inl (O₂_pos h)
  · exact .inr (tally_pos h)

/-- The first arrival's level. -/
theorem lv_recv0 (c : Dev nD) (u : Unit) : lv (recv0 c) u = 2 := by
  dsimp only [lv]; rw [if_neg (dma_ne_bar _), if_pos (.inl rfl)]
/-- The second arrival's level. -/
theorem lv_recv1 (c : Dev nD) (u : Unit) : lv (recv1 c) u = 2 := by
  dsimp only [lv]; rw [if_neg (dma_ne_bar _), if_pos (.inr rfl)]
/-- The barrier's level, below the arrivals'. -/
theorem lv_bar (c : Dev nD) (u : Unit) : lv (barCell c) u = 1 := by
  dsimp only [lv]; exact if_pos rfl

/-- The local copies' semaphores and the departures' sit at the bottom. -/
theorem lv_low (c : Dev nD) (q : DmaSem sig) (u : Unit) (h : q ≠ recvS0 ∧ q ≠ recvS1) : lv ((c : Thread nD τ), .dma q) u = 0 := by
  dsimp only [lv]
  rw [if_neg (dma_ne_bar _), if_neg]
  rintro (e | e) <;> injection e with e'
  · exact h.1 e'
  · exact h.2 e'

/-- A device waits at any cell below all that it owes. -/
theorem mayWait_of (c : Dev nD) (sm : SemLoc sig) (O : CellTallies nD τ sig Unit) (n : ℕ)
    (hn : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- Both arrivals are owed above the barrier's level, so the barrier may be waited for. -/
theorem O₂_lv {c : Dev nD} {g : GSem nD τ sig} {u : Unit} (h : 0 < O₂ c g u) : g.1.2 = .tc ∧ 1 < lv g u := by
  rcases O₂_pos h with rfl | rfl
  · exact ⟨rfl, by rw [lv_recv1]; decide⟩
  · exact ⟨rfl, by rw [lv_recv0]; decide⟩
/-- So is the second arrival alone. -/
theorem O₁_lv {c : Dev nD} {g : GSem nD τ sig} {u : Unit} (h : 0 < tallyAt (recv1 (peer c)) () N g u) : g.1.2 = .tc ∧ 1 < lv g u := by
  rw [tally_pos h]; exact ⟨rfl, by rw [lv_recv1]; decide⟩
/-- Everything owed at the start is above the local copies' level. -/
theorem O₀_lv {c : Dev nD} {g : GSem nD τ sig} {u : Unit} (h : 0 < O₀ c g u) : g.1.2 = .tc ∧ 0 < lv g u := by
  rcases O₀_pos h with (rfl | rfl) | rfl
  · exact ⟨rfl, by rw [lv_recv1]; decide⟩
  · exact ⟨rfl, by rw [lv_recv0]; decide⟩
  · exact ⟨rfl, by rw [lv_bar]; decide⟩

end Cert.KernelIdeal.Run
-- ==== Proof.KernelIdealHalves.lean ====
/-
  Halves of the two exchanged buffers: how the own sums and the landing area split into the parts that change hands, and
  how those parts join again.
-/
module

public import proofs.«01_k».proof.Proof.KernelIdealProto

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ
variable (m : (ℓ : Loc nD τ sig) → Buf (Elt F) ℓ)

/-! ## Which elements each half is -/

/-- The first half of the own sums: rows below six; -/
theorem mem_accLo (i : S12x128.Idx) : i ∈ accLo.view.set ↔ (i 0).val < 6 := by
  rw [show accLo.view.set = _ from View.set_slice_whole _ _]
  refine Rect.mem_set_unit.trans (Iff.trans Fin.forall_fin_two ?_)
  have h : (i 1).val < 128 := (i 1).isLt
  show (0 ≤ (i 0).val ∧ (i 0).val < 0 + 6) ∧ (0 ≤ (i 1).val ∧ (i 1).val < 0 + 128) ↔ _
  omega
/-- the second: the rest. -/
theorem mem_accHi (i : S12x128.Idx) : i ∈ accHi.view.set ↔ ¬ (i 0).val < 6 := by
  rw [show accHi.view.set = _ from View.set_slice_whole _ _]
  refine Rect.mem_set_unit.trans (Iff.trans Fin.forall_fin_two ?_)
  have h : (i 1).val < 128 := (i 1).isLt
  have h' : (i 0).val < 12 := (i 0).isLt
  show (6 ≤ (i 0).val ∧ (i 0).val < 6 + 6) ∧ (0 ≤ (i 1).val ∧ (i 1).val < 0 + 128) ↔ _
  omega
/-- The landing area's first half: rows below six; -/
theorem mem_comLo (i : S16x128.Idx) : i ∈ comLo.view.set ↔ (i 0).val < 6 := by
  rw [show comLo.view.set = _ from View.set_slice_whole _ _]
  refine Rect.mem_set_unit.trans (Iff.trans Fin.forall_fin_two ?_)
  have h : (i 1).val < 128 := (i 1).isLt
  show (0 ≤ (i 0).val ∧ (i 0).val < 0 + 6) ∧ (0 ≤ (i 1).val ∧ (i 1).val < 0 + 128) ↔ _
  omega
/-- the second: rows six to eleven. -/
theorem mem_comHi (i : S16x128.Idx) : i ∈ comHi.view.set ↔ 6 ≤ (i 0).val ∧ (i 0).val < 12 := by
  rw [show comHi.view.set = _ from View.set_slice_whole _ _]
  refine Rect.mem_set_unit.trans (Iff.trans Fin.forall_fin_two ?_)
  have h : (i 1).val < 128 := (i 1).isLt
  show (6 ≤ (i 0).val ∧ (i 0).val < 6 + 6) ∧ (0 ≤ (i 1).val ∧ (i 1).val < 0 + 128) ↔ _
  omega

/-- The rows of the own sums past the first half, as the stores address them. -/
abbrev rHi : Rect S12x128 := Rect.unit (s := S12x128) ![6, 0] S6x128.size inb_S12x128_S6x128_6_0

/-- The own sums outside the first half are the second half's rows. -/
theorem accHi_eq : (Finset.univ \ accLo.view.set : Finset S12x128.Idx) = accM.view.setOn rHi.set := by
  rw [show accM.view.setOn rHi.set = accHi.view.set from (View.set_slice _ _).symm]
  ext i; rw [Finset.mem_sdiff, mem_accLo, mem_accHi]; simp

/-! ## Splitting and joining -/

/-- The own sums split once the first half's rows are named. -/
theorem acc_split (c : Dev nD) (f : Buf (Elt F) (accM.view.loc (c : Thread nD τ)))
    (h : ∀ i ∈ accLo.view.set, f i = accV m c i) :
    (accM.view.loc (c : Thread nD τ) ↦{fullShare} f : sProp 𝕄)
      ⊢ iprop(pts accLo c (accV m c) ∗ (accM.view.loc (c : Thread nD τ) ↦[accM.view.setOn rHi.set]{fullShare} f)) := by
  refine (pointsTo_split_subset (Finset.subset_univ accLo.view.set)).1.trans (Entails.of_eq ?_)
  rw [pointsTo_congr h]
  exact congrArg (fun S => iprop(pts accLo c (accV m c) ∗ (accM.view.loc (c : Thread nD τ) ↦[S]{fullShare} f))) accHi_eq

/-- The second half, its rows named. -/
theorem accHi_named (c : Dev nD) (f : Buf (Elt F) (accM.view.loc (c : Thread nD τ)))
    (h : ∀ i ∈ accHi.view.set, f i = accV m c i) :
    (accM.view.loc (c : Thread nD τ) ↦[accM.view.setOn rHi.set]{fullShare} f : sProp 𝕄) ⊢ pts accHi c (accV m c) := by
  rw [show accM.view.setOn rHi.set = accHi.view.set from (View.set_slice _ _).symm]
  exact Entails.of_eq (pointsTo_congr h)

/-- Both halves back: the own sums whole. -/
theorem acc_join (c : Dev nD) :
    iprop(pts accLo c (accV m c) ∗ pts accHi c (accV m c)) ⊢ (accM.view.loc (c : Thread nD τ) ↦{fullShare} accV m c : sProp 𝕄) := by
  refine Entails.trans (Entails.of_eq ?_) (pointsTo_split_subset (Finset.subset_univ accLo.view.set)).2
  refine congrArg (fun S => iprop(pts accLo c (accV m c) ∗ (accM.view.loc (c : Thread nD τ) ↦[S]{fullShare} accV m c))) ?_
  rw [accHi_eq]; exact (View.set_slice _ _)

/-- The rows of the landing area nothing arrives in. -/
abbrev comRest : Finset S16x128.Idx := (Finset.univ \ comLo.view.set) \ comHi.view.set

/-- The landing area's two halves do not meet. -/
theorem comHi_sub : comHi.view.set ⊆ (Finset.univ \ comLo.view.set : Finset S16x128.Idx) := by
  intro i hi
  rw [mem_comHi] at hi
  rw [Finset.mem_sdiff, mem_comLo]
  exact ⟨Finset.mem_univ _, by omega⟩

/-- The landing area splits into the two halves the mate will fill and the rest. -/
theorem com_split (c : Dev nD) (f : Buf (Elt F) (comM.view.loc (c : Thread nD τ))) :
    (comM.view.loc (c : Thread nD τ) ↦{fullShare} f : sProp 𝕄)
      ⊢ iprop(pts comLo c f ∗ pts comHi c f ∗ (comM.view.loc (c : Thread nD τ) ↦[comRest]{fullShare} f)) :=
  (pointsTo_split_subset (Finset.subset_univ comLo.view.set)).1.trans
    (sep_mono_right (pointsTo_split_subset comHi_sub).1)

/-- The landing area's contents once both halves have arrived. -/
def comF (c : Dev nD) (f : Buf (Elt F) (comM.view.loc (c : Thread nD τ))) : Buf (Elt F) (comM.view.loc (c : Thread nD τ)) :=
  comLo.view.set.piecewise (comV m c) (comHi.view.set.piecewise (comV m c) f)

/-- The two halves and the rest join. -/
theorem com_join (c : Dev nD) (f : Buf (Elt F) (comM.view.loc (c : Thread nD τ))) :
    iprop(pts comLo c (comV m c) ∗ pts comHi c (comV m c) ∗ (comM.view.loc (c : Thread nD τ) ↦[comRest]{fullShare} f))
      ⊢ (comM.view.loc (c : Thread nD τ) ↦{fullShare} comF m c f : sProp 𝕄) :=
  (sep_mono_right (pointsTo_join_subset comHi_sub)).trans (pointsTo_join_subset (Finset.subset_univ comLo.view.set))

/-- The first twelve rows are what the mate sent. -/
theorem comF_apply (c : Dev nD) (f : Buf (Elt F) (comM.view.loc (c : Thread nD τ))) (i : S16x128.Idx) (h : (i 0).val < 12) :
    comF m c f i = comV m c i := by
  unfold comF
  by_cases h1 : i ∈ comLo.view.set
  · rw [Finset.piecewise_eq_of_mem _ _ _ h1]
  · rw [Finset.piecewise_eq_of_notMem _ _ _ h1, Finset.piecewise_eq_of_mem]
    rw [mem_comLo] at h1; rw [mem_comHi]; omega

/-! ## What a send leaves in the mate's landing area -/

/-- The coordinates of an element of a half, in its buffer. -/
theorem accLo_emb (j : S6x128.Idx) : accLo.view.emb j = (ix2 (n0 := 12) (n1 := 128) ⟨(j 0).val, by have h : (j 0).val < 6 := (j 0).isLt; omega⟩ (j 1) : S12x128.Idx) := by
  funext a
  refine Fin.ext ?_
  match a with
  | ⟨0, _⟩ => exact (Rect.emb_apply _ _ _).trans (by show 0 + 1 * (j 0).val = _; rw [Nat.one_mul]; first | rfl | exact Nat.zero_add _)
  | ⟨1, _⟩ => exact (Rect.emb_apply _ _ _).trans (by show 0 + 1 * (j 1).val = _; rw [Nat.one_mul]; exact Nat.zero_add _)
/-- Where an entry of the second half lies among the own sums. -/
theorem accHi_emb (j : S6x128.Idx) : accHi.view.emb j = (ix2 (n0 := 12) (n1 := 128) ⟨6 + (j 0).val, by have h : (j 0).val < 6 := (j 0).isLt; omega⟩ (j 1) : S12x128.Idx) := by
  funext a
  refine Fin.ext ?_
  match a with
  | ⟨0, _⟩ => exact (Rect.emb_apply _ _ _).trans (by show 6 + 1 * (j 0).val = _; rw [Nat.one_mul]; first | rfl | exact Nat.zero_add _)
  | ⟨1, _⟩ => exact (Rect.emb_apply _ _ _).trans (by show 0 + 1 * (j 1).val = _; rw [Nat.one_mul]; exact Nat.zero_add _)
/-- Where an entry of the first half lies in the landing area. -/
theorem comLo_emb (j : S6x128.Idx) : comLo.view.emb j = (ix2 (n0 := 16) (n1 := 128) ⟨(j 0).val, by have h : (j 0).val < 6 := (j 0).isLt; omega⟩ (j 1) : S16x128.Idx) := by
  funext a
  refine Fin.ext ?_
  match a with
  | ⟨0, _⟩ => exact (Rect.emb_apply _ _ _).trans (by show 0 + 1 * (j 0).val = _; rw [Nat.one_mul]; first | rfl | exact Nat.zero_add _)
  | ⟨1, _⟩ => exact (Rect.emb_apply _ _ _).trans (by show 0 + 1 * (j 1).val = _; rw [Nat.one_mul]; exact Nat.zero_add _)
/-- Where an entry of the second half lies in the landing area. -/
theorem comHi_emb (j : S6x128.Idx) : comHi.view.emb j = (ix2 (n0 := 16) (n1 := 128) ⟨6 + (j 0).val, by have h : (j 0).val < 6 := (j 0).isLt; omega⟩ (j 1) : S16x128.Idx) := by
  funext a
  refine Fin.ext ?_
  match a with
  | ⟨0, _⟩ => exact (Rect.emb_apply _ _ _).trans (by show 6 + 1 * (j 0).val = _; rw [Nat.one_mul]; first | rfl | exact Nat.zero_add _)
  | ⟨1, _⟩ => exact (Rect.emb_apply _ _ _).trans (by show 0 + 1 * (j 1).val = _; rw [Nat.one_mul]; exact Nat.zero_add _)

/-- The first twelve rows of the landing area, as the mate's sums. -/
theorem comV_apply (c : Dev nD) (r : Fin 12) (h : r.val < 16) (l : Fin 128) :
    comV m c (ix2 (n0 := 16) (n1 := 128) ⟨r.val, h⟩ l : S16x128.Idx) = accV m (peer c) (ix2 (n0 := 12) (n1 := 128) r l : S12x128.Idx) := by
  show accV m (peer c) (ix2 (n0 := 12) (n1 := 128) ⟨min r.val 11, _⟩ l : S12x128.Idx) = _
  congr 2
  exact Fin.ext (by have := r.isLt; show min r.val 11 = r.val; omega)

/-- The first half of the own sums, written into the mate's landing area, is what the schedule names there; -/
theorem landLo (c : Dev nD) (f : Buf (Elt F) (comLo.view.loc (peer c : Thread nD τ))) :
    pts comLo (peer c) (comLo.view.write (Elt F) f (accLo.view.read (Elt F) (accV m c)) Finset.univ)
      ⊢ (pts comLo (peer c) (comV m (peer c)) : sProp 𝕄) := by
  refine Entails.of_eq (pointsTo_congr fun i hi => ?_)
  obtain ⟨j, -, rfl⟩ := Finset.mem_map.mp hi
  have h : (j 0).val < 6 := (j 0).isLt
  rw [View.write_emb_of_mem _ _ (Finset.mem_univ _), View.read_apply, accLo_emb, comLo_emb]
  exact ((comV_apply m (peer c) ⟨(j 0).val, by omega⟩ (by omega) (j 1)).trans (by rw [peer_peer]; rfl)).symm
/-- and the second half likewise. -/
theorem landHi (c : Dev nD) (f : Buf (Elt F) (comHi.view.loc (peer c : Thread nD τ))) :
    pts comHi (peer c) (comHi.view.write (Elt F) f (accHi.view.read (Elt F) (accV m c)) Finset.univ)
      ⊢ (pts comHi (peer c) (comV m (peer c)) : sProp 𝕄) := by
  refine Entails.of_eq (pointsTo_congr fun i hi => ?_)
  obtain ⟨j, -, rfl⟩ := Finset.mem_map.mp hi
  have h : (j 0).val < 6 := (j 0).isLt
  rw [View.write_emb_of_mem _ _ (Finset.mem_univ _), View.read_apply, accHi_emb, comHi_emb]
  exact ((comV_apply m (peer c) ⟨6 + (j 0).val, by omega⟩ (by show 6 + (j 0).val < 16; omega) (j 1)).trans (by rw [peer_peer]; rfl)).symm

end Cert.KernelIdeal.Run
-- ==== Proof.KernelIdealPads.lean ====
/-
  The six local copies of the row-mean kernel: the 256-row slices of the argument's block they read, the pads they land
  in, and how the two buffers split into these parts and join again.
-/
module

public import proofs.«01_k».proof.Proof.KernelIdealHalves
public import Idealize.ShloMosaic.Lib.Ring

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ
variable (m : (ℓ : Loc nD τ sig) → Buf (Elt F) ℓ)

/-! ## Names -/

/-- Rows 0 to 255 of the argument's block; -/
abbrev grp0 : Memref sig .tc .hbm S256x768 .f32 :=
  xM.slice (Rect.unit (s := S1536x768) ![0, 0] S256x768.size inb_S1536x768_S256x768_0_0) (fun _ => rfl)
/-- the pad they land in; -/
abbrev slot0 : Memref sig .tc .vmem S256x768 .f32 :=
  (bufM.slice (Rect.unit (s := S6x256x768) ![0, 0, 0] S1x256x768.size inb_S6x256x768_S1x256x768_0_0_0) (fun _ => rfl)).squeeze S256x768 squeezes_S1x256x768_S256x768
/-- the copy's semaphore. -/
abbrev copyS0 : DmaSem sig := ((cc0_scratch3.slice (Rect.unit (s := S6) ![0] S1.size inb_S6_S1_0)).squeeze S_ squeezes_S1_S_).sem
/-- Rows 256 to 511 of the argument's block; -/
abbrev grp1 : Memref sig .tc .hbm S256x768 .f32 :=
  xM.slice (Rect.unit (s := S1536x768) ![256, 0] S256x768.size inb_S1536x768_S256x768_256_0) (fun _ => rfl)
/-- the pad they land in; -/
abbrev slot1 : Memref sig .tc .vmem S256x768 .f32 :=
  (bufM.slice (Rect.unit (s := S6x256x768) ![1, 0, 0] S1x256x768.size inb_S6x256x768_S1x256x768_1_0_0) (fun _ => rfl)).squeeze S256x768 squeezes_S1x256x768_S256x768
/-- the copy's semaphore. -/
abbrev copyS1 : DmaSem sig := ((cc0_scratch3.slice (Rect.unit (s := S6) ![1] S1.size inb_S6_S1_1)).squeeze S_ squeezes_S1_S_).sem
/-- Rows 512 to 767 of the argument's block; -/
abbrev grp2 : Memref sig .tc .hbm S256x768 .f32 :=
  xM.slice (Rect.unit (s := S1536x768) ![512, 0] S256x768.size inb_S1536x768_S256x768_512_0) (fun _ => rfl)
/-- the pad they land in; -/
abbrev slot2 : Memref sig .tc .vmem S256x768 .f32 :=
  (bufM.slice (Rect.unit (s := S6x256x768) ![2, 0, 0] S1x256x768.size inb_S6x256x768_S1x256x768_2_0_0) (fun _ => rfl)).squeeze S256x768 squeezes_S1x256x768_S256x768
/-- the copy's semaphore. -/
abbrev copyS2 : DmaSem sig := ((cc0_scratch3.slice (Rect.unit (s := S6) ![2] S1.size inb_S6_S1_2)).squeeze S_ squeezes_S1_S_).sem
/-- Rows 768 to 1023 of the argument's block; -/
abbrev grp3 : Memref sig .tc .hbm S256x768 .f32 :=
  xM.slice (Rect.unit (s := S1536x768) ![768, 0] S256x768.size inb_S1536x768_S256x768_768_0) (fun _ => rfl)
/-- the pad they land in; -/
abbrev slot3 : Memref sig .tc .vmem S256x768 .f32 :=
  (bufM.slice (Rect.unit (s := S6x256x768) ![3, 0, 0] S1x256x768.size inb_S6x256x768_S1x256x768_3_0_0) (fun _ => rfl)).squeeze S256x768 squeezes_S1x256x768_S256x768
/-- the copy's semaphore. -/
abbrev copyS3 : DmaSem sig := ((cc0_scratch3.slice (Rect.unit (s := S6) ![3] S1.size inb_S6_S1_3)).squeeze S_ squeezes_S1_S_).sem
/-- Rows 1024 to 1279 of the argument's block; -/
abbrev grp4 : Memref sig .tc .hbm S256x768 .f32 :=
  xM.slice (Rect.unit (s := S1536x768) ![1024, 0] S256x768.size inb_S1536x768_S256x768_1024_0) (fun _ => rfl)
/-- the pad they land in; -/
abbrev slot4 : Memref sig .tc .vmem S256x768 .f32 :=
  (bufM.slice (Rect.unit (s := S6x256x768) ![4, 0, 0] S1x256x768.size inb_S6x256x768_S1x256x768_4_0_0) (fun _ => rfl)).squeeze S256x768 squeezes_S1x256x768_S256x768
/-- the copy's semaphore. -/
abbrev copyS4 : DmaSem sig := ((cc0_scratch3.slice (Rect.unit (s := S6) ![4] S1.size inb_S6_S1_4)).squeeze S_ squeezes_S1_S_).sem
/-- Rows 1280 to 1535 of the argument's block; -/
abbrev grp5 : Memref sig .tc .hbm S256x768 .f32 :=
  xM.slice (Rect.unit (s := S1536x768) ![1280, 0] S256x768.size inb_S1536x768_S256x768_1280_0) (fun _ => rfl)
/-- the pad they land in; -/
abbrev slot5 : Memref sig .tc .vmem S256x768 .f32 :=
  (bufM.slice (Rect.unit (s := S6x256x768) ![5, 0, 0] S1x256x768.size inb_S6x256x768_S1x256x768_5_0_0) (fun _ => rfl)).squeeze S256x768 squeezes_S1x256x768_S256x768
/-- the copy's semaphore. -/
abbrev copyS5 : DmaSem sig := ((cc0_scratch3.slice (Rect.unit (s := S6) ![5] S1.size inb_S6_S1_5)).squeeze S_ squeezes_S1_S_).sem

/-! ## Splitting and joining -/

/-- Where the `k`-th group of 256 rows begins in the argument. -/
abbrev grpOff (k : Fin 6) : Fin 2 → ℕ := ![256 * k.val, 0]
/-- Every group lies inside the argument. -/
theorem grpOff_inb (k : Fin 6) : ∀ a, grpOff k a + S256x768.size a ≤ S1536x768.size a := by revert k; decide
/-- Where the `k`-th landing pad begins. -/
abbrev slotOff (k : Fin 6) : Fin 3 → ℕ := ![k.val, 0, 0]
/-- Every pad lies inside the buffer of pads. -/
theorem slotOff_inb (k : Fin 6) : ∀ a, slotOff k a + S1x256x768.size a ≤ S6x256x768.size a := by revert k; decide

/-- The elements of the `k`-th slice of rows; -/
abbrev grpI (k : Fin 6) : Finset S1536x768.Idx := (Rect.unit (s := S1536x768) (grpOff k) S256x768.size (grpOff_inb k)).set
/-- of the `k`-th pad. -/
abbrev slotI (k : Fin 6) : Finset S6x256x768.Idx := (Rect.unit (s := S6x256x768) (slotOff k) S1x256x768.size (slotOff_inb k)).set

/-- Different groups share no entry. -/
theorem grpI_disjoint : ∀ b b', b ≠ b' → Disjoint (grpI b) (grpI b') :=
  Ring.lead_disjoint (s := S1536x768) 0 256 grpOff S256x768.size grpOff_inb (fun _ => rfl) rfl
/-- The six groups are the whole argument. -/
theorem grpI_cover : Finset.univ.biUnion grpI = Finset.univ :=
  Ring.lead_cover (s := S1536x768) 0 256 grpOff S256x768.size grpOff_inb (fun _ => rfl)
    (fun b a h => by match a with | ⟨0, _⟩ => exact absurd rfl h | ⟨1, _⟩ => rfl) rfl
    (fun a h => by match a with | ⟨0, _⟩ => exact absurd rfl h | ⟨1, _⟩ => rfl) (show 6 * 256 = 1536 from rfl)
/-- Different pads share no entry. -/
theorem slotI_disjoint : ∀ b b', b ≠ b' → Disjoint (slotI b) (slotI b') :=
  Ring.lead_disjoint (s := S6x256x768) 0 1 slotOff S1x256x768.size slotOff_inb (fun b => (Nat.one_mul b.val).symm) rfl
/-- The six pads are the whole buffer. -/
theorem slotI_cover : Finset.univ.biUnion slotI = Finset.univ :=
  Ring.lead_cover (s := S6x256x768) 0 1 slotOff S1x256x768.size slotOff_inb (fun b => (Nat.one_mul b.val).symm)
    (fun b a h => by match a with | ⟨0, _⟩ => exact absurd rfl h | ⟨1, _⟩ => rfl | ⟨2, _⟩ => rfl) rfl
    (fun a h => by match a with | ⟨0, _⟩ => exact absurd rfl h | ⟨1, _⟩ => rfl | ⟨2, _⟩ => rfl) (show 6 * 1 = 6 from rfl)

/-- A separating product over six indices, spelt out. -/
theorem bigSep_fin6 (Φ : Fin 6 → sProp 𝕄) : bigSep Finset.univ Φ = iprop(Φ 0 ∗ Φ 1 ∗ Φ 2 ∗ Φ 3 ∗ Φ 4 ∗ Φ 5) := by
  rw [bigSep_eq_bigSepL_of_eq [0, 1, 2, 3, 4, 5] (by decide) (by decide)]; rfl

/-- The entries of the copy's source number 0. -/
theorem grp0_set : grp0.view.set = grpI 0 := View.set_slice_whole _ _
/-- The entries of the copy's target number 0. -/
theorem slot0_set : slot0.view.set = slotI 0 := (Memref.set_view_squeeze _ _).trans (View.set_slice_whole _ _)
/-- The entries of the copy's source number 1. -/
theorem grp1_set : grp1.view.set = grpI 1 := View.set_slice_whole _ _
/-- The entries of the copy's target number 1. -/
theorem slot1_set : slot1.view.set = slotI 1 := (Memref.set_view_squeeze _ _).trans (View.set_slice_whole _ _)
/-- The entries of the copy's source number 2. -/
theorem grp2_set : grp2.view.set = grpI 2 := View.set_slice_whole _ _
/-- The entries of the copy's target number 2. -/
theorem slot2_set : slot2.view.set = slotI 2 := (Memref.set_view_squeeze _ _).trans (View.set_slice_whole _ _)
/-- The entries of the copy's source number 3. -/
theorem grp3_set : grp3.view.set = grpI 3 := View.set_slice_whole _ _
/-- The entries of the copy's target number 3. -/
theorem slot3_set : slot3.view.set = slotI 3 := (Memref.set_view_squeeze _ _).trans (View.set_slice_whole _ _)
/-- The entries of the copy's source number 4. -/
theorem grp4_set : grp4.view.set = grpI 4 := View.set_slice_whole _ _
/-- The entries of the copy's target number 4. -/
theorem slot4_set : slot4.view.set = slotI 4 := (Memref.set_view_squeeze _ _).trans (View.set_slice_whole _ _)
/-- The entries of the copy's source number 5. -/
theorem grp5_set : grp5.view.set = grpI 5 := View.set_slice_whole _ _
/-- The entries of the copy's target number 5. -/
theorem slot5_set : slot5.view.set = slotI 5 := (Memref.set_view_squeeze _ _).trans (View.set_slice_whole _ _)

/-- The block of the argument is its six slices of rows. -/
theorem x_eq (c : Dev nD) (f : Buf (Elt F) (xM.view.loc (c : Thread nD τ))) :
    (xM.view.loc (c : Thread nD τ) ↦{fullShare} f : sProp 𝕄)
      = iprop(pts grp0 c f ∗ pts grp1 c f ∗ pts grp2 c f ∗ pts grp3 c f ∗ pts grp4 c f ∗ pts grp5 c f) := by
  rw [show (xM.view.loc (c : Thread nD τ) ↦{fullShare} f : sProp 𝕄) = _ from
    Ring.pointsTo_blocks (ℓ := xM.view.loc (c : Thread nD τ)) grpI grpI_disjoint grpI_cover f, bigSep_fin6]
  unfold pts
  rw [grp0_set, grp1_set, grp2_set, grp3_set, grp4_set, grp5_set]
/-- The landing buffer is its six pads; -/
theorem buf_eq (c : Dev nD) (f : Buf (Elt F) (bufM.view.loc (c : Thread nD τ))) :
    (bufM.view.loc (c : Thread nD τ) ↦{fullShare} f : sProp 𝕄)
      = iprop(pts slot0 c f ∗ pts slot1 c f ∗ pts slot2 c f ∗ pts slot3 c f ∗ pts slot4 c f ∗ pts slot5 c f) := by
  rw [show (bufM.view.loc (c : Thread nD τ) ↦{fullShare} f : sProp 𝕄) = _ from
    Ring.pointsTo_blocks (ℓ := bufM.view.loc (c : Thread nD τ)) slotI slotI_disjoint slotI_cover f, bigSep_fin6]
  unfold pts
  rw [slot0_set, slot1_set, slot2_set, slot3_set, slot4_set, slot5_set]
/-- which join whatever each holds. -/
theorem buf_join (c : Dev nD) (f₀ : Buf (Elt F) (bufM.view.loc (c : Thread nD τ))) :
    iprop((∃ f, pts slot0 c f) ∗ (∃ f, pts slot1 c f) ∗ (∃ f, pts slot2 c f) ∗ (∃ f, pts slot3 c f) ∗ (∃ f, pts slot4 c f) ∗ (∃ f, pts slot5 c f))
      ⊢ (iprop(∃ f, bufM.view.loc (c : Thread nD τ) ↦{fullShare} f) : sProp 𝕄) := by
  refine Entails.trans (Entails.of_eq ?_) (Ring.pointsTo_blocks_join_exists (ℓ := bufM.view.loc (c : Thread nD τ)) slotI slotI_disjoint slotI_cover f₀)
  rw [bigSep_fin6]
  unfold pts
  rw [slot0_set, slot1_set, slot2_set, slot3_set, slot4_set, slot5_set]

end Cert.KernelIdeal.Run
-- ==== Proof.KernelIdealSums.lean ====
/-
  What the row-mean kernel's memory holds as it runs: a pad the local copy filled, read back, is the copied rows; the
  own sums after the stores are the named ones, half by half.
-/
module

public import proofs.«01_k».proof.Proof.KernelIdealPads
public import Idealize.ShloMosaic.Lib.ValueLayout

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ
variable (m : (ℓ : Loc nD τ sig) → Buf (Elt F) ℓ)

/-! ## Loads of a filled pad -/

/-- A pad filled with the copied rows, read back, is those rows. -/
theorem load_blk (c : Dev nD) (k : ℕ) (hk : k < 6) (o : ℕ) (ho : o = 256 * k)
    (hb : ∀ a, (![k, 0, 0] : Fin 3 → ℕ) a + S1x256x768.size a ≤ S6x256x768.size a) (hg : ∀ a, (![o, 0] : Fin 2 → ℕ) a + S256x768.size a ≤ S1536x768.size a)
    (f : (cc0_scratch0 : Ref sig .tc).ty.Contents (Elt F)) (w : S256x768.Idx → Elt F .f32)
    (hw : w = (xM.slice (Rect.unit (s := S1536x768) ![o, 0] S256x768.size hg) (fun _ => rfl)).view.read (Elt F) (xin m c)) :
    bufM.view.readAt (Elt F) (Rect.unit (s := S6x256x768) ![k, 0, 0] S1x256x768.size hb).toLoadRect
      (((bufM.slice (Rect.unit (s := S6x256x768) ![k, 0, 0] S1x256x768.size hb) (fun _ => rfl)).squeeze S256x768 squeezes_S1x256x768_S256x768).view.writes
        (Elt F) f [⟨Rect.whole S256x768, w⟩]) = blk m c ⟨k, hk⟩ := by
  subst hw
  rw [← View.write_univ_eq_writes_whole, View.writes_nil]
  funext j
  have h0 : (j 0).val < 1 := (j 0).isLt
  have hj : Shape.reshapeEquiv (Shape.Squeezes.numel_eq squeezes_S1x256x768_S256x768) (ValueIdx.ix2 (j 1) (j 2) : S256x768.Idx) = j :=
    (ValueIdx.reshapeEquiv_ix2_1ab (a := 256) (b := 768) _ (j 1) (j 2)).trans (funext fun a => by
      match a with
      | ⟨0, _⟩ => exact Fin.ext (by show 0 = (j 0).val; omega)
      | ⟨1, _⟩ => rfl
      | ⟨2, _⟩ => rfl)
  have he : bufM.view.emb ((Rect.unit (s := S6x256x768) ![k, 0, 0] S1x256x768.size hb).toLoadRect.idx j)
      = ((bufM.slice (Rect.unit (s := S6x256x768) ![k, 0, 0] S1x256x768.size hb) (fun _ => rfl)).squeeze S256x768 squeezes_S1x256x768_S256x768).view.emb
          (ValueIdx.ix2 (j 1) (j 2) : S256x768.Idx) := by
    show _ = bufM.view.emb ((Rect.unit (s := S6x256x768) ![k, 0, 0] S1x256x768.size hb).emb (Shape.reshapeEquiv _ (ValueIdx.ix2 (j 1) (j 2) : S256x768.Idx)))
    rw [hj]; rfl
  rw [View.readAt_apply, View.read_apply, he, View.write_emb_of_mem _ _ (Finset.mem_univ _), View.read_apply]
  show xin m c ((Rect.unit (s := S1536x768) ![o, 0] S256x768.size hg).emb (ValueIdx.ix2 (j 1) (j 2) : S256x768.Idx)) = xin m c _
  refine congrArg (xin m c) (funext fun a => Fin.ext ?_)
  match a with
  | ⟨0, _⟩ => exact (Rect.emb_apply _ _ _).trans (by show o + 1 * (j 1).val = 256 * k + (j 1).val; rw [Nat.one_mul, ho])
  | ⟨1, _⟩ => exact (Rect.emb_apply _ _ _).trans (by show 0 + 1 * (j 2).val = (j 2).val; rw [Nat.one_mul, Nat.zero_add])

/-! ## The own sums after the stores -/

/-- One store of two rows of sums: its rows read the stored value, the others as before. -/
theorem acc_store (g : (cc0_scratch1 : Ref sig .tc).ty.Contents (Elt F)) (o : ℕ) (k : ℕ) (ho : o = 2 * k)
    (hb : ∀ a, (![o, 0] : Fin 2 → ℕ) a + S2x128.size a ≤ S12x128.size a) (w : Vec F S2x128 .f32) (L : List (View.Piece (Elt F) S12x128 .f32)) (i : S12x128.Idx) :
    accM.view.writes (Elt F) g (⟨Rect.unit (s := S12x128) ![o, 0] S2x128.size hb, w⟩ :: L) i
      = if (i 0).val / 2 = k then w (ix2 (n0 := 2) (n1 := 128) ⟨(i 0).val % 2, Nat.mod_lt _ (by decide)⟩ (i 1)) else accM.view.writes (Elt F) g L i := by
  rw [View.writes_cons]
  by_cases h : (i 0).val / 2 = k
  · rw [if_pos h]
    have he : i = (accM.view.slice (Rect.unit (s := S12x128) ![o, 0] S2x128.size hb)).emb
        (ix2 (n0 := 2) (n1 := 128) ⟨(i 0).val % 2, Nat.mod_lt _ (by decide)⟩ (i 1) : S2x128.Idx) := by
      funext a
      refine Fin.ext ?_
      match a with
      | ⟨0, _⟩ => refine Eq.trans ?_ (Rect.emb_apply _ _ _).symm; show (i 0).val = o + 1 * ((i 0).val % 2); omega
      | ⟨1, _⟩ => refine Eq.trans ?_ (Rect.emb_apply _ _ _).symm; show (i 1).val = 0 + 1 * (i 1).val; omega
    conv_lhs => rw [he]
    rw [View.write_emb_of_mem _ _ (Finset.mem_univ _)]; rfl
  · rw [if_neg h, View.write_of_not_mem]
    intro hm
    have hm' : i ∈ (Rect.unit (s := S12x128) ![o, 0] S2x128.size hb).set := by
      rw [← show (accM.view.slice (Rect.unit (s := S12x128) ![o, 0] S2x128.size hb)).set = (Rect.unit (s := S12x128) ![o, 0] S2x128.size hb).set from
        View.set_slice_whole _ _]
      exact hm
    have h0 : o ≤ (i 0).val ∧ (i 0).val < o + 2 := Rect.mem_set_unit.mp hm' 0
    omega

/-- The named sums at a row of the `k`-th part. -/
theorem accV_of (c : Dev nD) (k : ℕ) (hk : k < 6) (i : S12x128.Idx) (h : (i 0).val / 2 = k) :
    accV m c i = part m c ⟨k, hk⟩ (ix2 (n0 := 2) (n1 := 128) ⟨(i 0).val % 2, Nat.mod_lt _ (by decide)⟩ (i 1)) := by
  subst h; rfl

/-- After the first three stores the first half holds the named sums; -/
theorem accLo_val (c : Dev nD) (g : (cc0_scratch1 : Ref sig .tc).ty.Contents (Elt F)) (v0 v1 v2 : Vec F S1x256x768 .f32)
    (h0 : v0 = blk m c 0) (h1 : v1 = blk m c 1) (h2 : v2 = blk m c 2) (L : List (View.Piece (Elt F) S12x128 .f32)) :
    ∀ i ∈ accLo.view.set, accM.view.writes (Elt F) g
      (⟨Rect.unit (s := S12x128) ![4, 0] S2x128.size inb_S12x128_S2x128_4_0, k0_pay5 v2⟩
        :: ⟨Rect.unit (s := S12x128) ![2, 0] S2x128.size inb_S12x128_S2x128_2_0, k0_pay4 v1⟩
        :: ⟨Rect.unit (s := S12x128) ![0, 0] S2x128.size inb_S12x128_S2x128_0_0, k0_pay3 (k0_pay2 v0)⟩ :: L) i = accV m c i := by
  subst h0 h1 h2
  intro i hi
  rw [mem_accLo] at hi
  rw [acc_store g 4 2 rfl, acc_store g 2 1 rfl, acc_store g 0 0 rfl]
  split_ifs with h2 h1 h0
  · exact (accV_of m c 2 (by decide) i h2).symm
  · exact (accV_of m c 1 (by decide) i h1).symm
  · exact (accV_of m c 0 (by decide) i h0).symm
  · omega

/-- after the last three, the second half. -/
theorem accHi_val (c : Dev nD) (g : (cc0_scratch1 : Ref sig .tc).ty.Contents (Elt F)) (v3 v4 v5 : Vec F S1x256x768 .f32)
    (h3 : v3 = blk m c 3) (h4 : v4 = blk m c 4) (h5 : v5 = blk m c 5) (L : List (View.Piece (Elt F) S12x128 .f32)) :
    ∀ i ∈ accHi.view.set, accM.view.writes (Elt F) g
      (⟨Rect.unit (s := S12x128) ![10, 0] S2x128.size inb_S12x128_S2x128_10_0, k0_pay8 v5⟩
        :: ⟨Rect.unit (s := S12x128) ![8, 0] S2x128.size inb_S12x128_S2x128_8_0, k0_pay7 v4⟩
        :: ⟨Rect.unit (s := S12x128) ![6, 0] S2x128.size inb_S12x128_S2x128_6_0, k0_pay6 v3⟩ :: L) i = accV m c i := by
  subst h3 h4 h5
  intro i hi
  have h12 : (i 0).val < 12 := (i 0).isLt
  rw [mem_accHi] at hi
  rw [acc_store g 10 5 rfl, acc_store g 8 4 rfl, acc_store g 6 3 rfl]
  split_ifs with h5 h4 h3
  · exact (accV_of m c 5 (by decide) i h5).symm
  · exact (accV_of m c 4 (by decide) i h4).symm
  · exact (accV_of m c 3 (by decide) i h3).symm
  · omega

/-- After the first three stores the own sums split: the first half named, the rest as stored. -/
theorem sums_lo (c : Dev nD) (g : (cc0_scratch1 : Ref sig .tc).ty.Contents (Elt F)) (v0 v1 v2 : Vec F S1x256x768 .f32) :
    iprop((accM.view.loc (c : Thread nD τ) ↦{fullShare} accM.view.writes (Elt F) g
      [⟨Rect.unit (s := S12x128) ![4, 0] S2x128.size inb_S12x128_S2x128_4_0, k0_pay5 v2⟩,
       ⟨Rect.unit (s := S12x128) ![2, 0] S2x128.size inb_S12x128_S2x128_2_0, k0_pay4 v1⟩,
       ⟨Rect.unit (s := S12x128) ![0, 0] S2x128.size inb_S12x128_S2x128_0_0, k0_pay3 (k0_pay2 v0)⟩])
        ∗ ⌜v0 = blk m c 0 ∧ v1 = blk m c 1 ∧ v2 = blk m c 2⌝)
      ⊢ (iprop(pts accLo c (accV m c) ∗ (∃ f, accM.view.loc (c : Thread nD τ) ↦[accM.view.setOn rHi.set]{fullShare} f)) : sProp 𝕄) := by
  iintro ⟨H, %h⟩
  icases (acc_split m c _ (accLo_val m c g v0 v1 v2 h.1 h.2.1 h.2.2 [])) $$ H with ⟨H1, H2⟩
  isplitl [H1]
  · iexact H1
  · iexists _; iexact H2

/-- After the last three the second half is the named one. -/
theorem sums_hi (c : Dev nD) (g : (cc0_scratch1 : Ref sig .tc).ty.Contents (Elt F)) (v3 v4 v5 : Vec F S1x256x768 .f32) :
    iprop((accM.view.loc (c : Thread nD τ) ↦[accM.view.setOn rHi.set]{fullShare} accM.view.writes (Elt F) g
      [⟨Rect.unit (s := S12x128) ![10, 0] S2x128.size inb_S12x128_S2x128_10_0, k0_pay8 v5⟩,
       ⟨Rect.unit (s := S12x128) ![8, 0] S2x128.size inb_S12x128_S2x128_8_0, k0_pay7 v4⟩,
       ⟨Rect.unit (s := S12x128) ![6, 0] S2x128.size inb_S12x128_S2x128_6_0, k0_pay6 v3⟩])
        ∗ ⌜v3 = blk m c 3 ∧ v4 = blk m c 4 ∧ v5 = blk m c 5⌝)
      ⊢ (pts accHi c (accV m c) : sProp 𝕄) := by
  iintro ⟨H, %h⟩
  iapply (accHi_named m c _ (accHi_val m c g v3 v4 v5 h.1 h.2.1 h.2.2 []))
  iexact H

/-! ## The result -/

/-- The device's result: its own sums and its mate's, added and scaled. -/
def outV (c : Dev nD) : (cc0_stg0_0 : Ref sig .tc).ty.Contents (Elt F) :=
  k0_pay1 (F := F) (accV m c : Vec F S12x128 .f32) (accV m (peer c) : Vec F S12x128 .f32)

/-- The whole of the own sums, loaded; -/
theorem load_acc (f : (cc0_scratch1 : Ref sig .tc).ty.Contents (Elt F)) :
    accM.view.readAt (Elt F) (Rect.unit (s := S12x128) ![0, 0] S12x128.size inb_S12x128_S12x128_0_0).toLoadRect f = f :=
  Memref.readAt_unit_zero (Elt F) cc0_scratch1 (funext fun a => by match a with | ⟨0, _⟩ => rfl | ⟨1, _⟩ => rfl) _ f
/-- the landing area's first twelve rows, loaded; -/
theorem load_com (c : Dev nD) (f : Buf (Elt F) (comM.view.loc (c : Thread nD τ))) :
    comM.view.readAt (Elt F) (Rect.unit (s := S16x128) ![0, 0] S12x128.size inb_S16x128_S12x128_0_0).toLoadRect (comF m c f) = accV m (peer c) := by
  funext j
  have h : (j 0).val < 12 := (j 0).isLt
  have he : comM.view.emb ((Rect.unit (s := S16x128) ![0, 0] S12x128.size inb_S16x128_S12x128_0_0).toLoadRect.idx j)
      = (ix2 (n0 := 16) (n1 := 128) ⟨(j 0).val, by omega⟩ (j 1) : S16x128.Idx) := by
    funext a
    refine Fin.ext ?_
    match a with
    | ⟨0, _⟩ => show 0 + 1 * (j 0).val = (j 0).val; omega
    | ⟨1, _⟩ => show 0 + 1 * (j 1).val = (j 1).val; omega
  rw [View.readAt_apply, View.read_apply, he, comF_apply m c f _ h]
  refine Eq.trans (comV_apply m c ⟨(j 0).val, h⟩ (by show (j 0).val < 16; omega) (j 1)) ?_
  refine congrArg (accV m (peer c)) (funext fun a => ?_)
  match a with
  | ⟨0, _⟩ => rfl
  | ⟨1, _⟩ => rfl
/-- the result, stored. -/
theorem store_out (f w : (cc0_stg0_0 : Ref sig .tc).ty.Contents (Elt F)) :
    outM.view.writes (Elt F) f [⟨Rect.unit (s := S12x128) ![0, 0] S12x128.size inb_S12x128_S12x128_0_0, w⟩] = w :=
  Memref.write_access_unit_zero_univ (Elt F) cc0_stg0_0 (off := ![0, 0]) (funext fun a => by match a with | ⟨0, _⟩ => rfl | ⟨1, _⟩ => rfl)
    inb_S12x128_S12x128_0_0 f w

/-- The staging buffer after the last store. -/
theorem out_val (c : Dev nD) (f : (cc0_stg0_0 : Ref sig .tc).ty.Contents (Elt F)) (v w : Vec F S12x128 .f32)
    (hv : v = accV m c) (hw : w = accV m (peer c)) :
    outM.view.writes (Elt F) f [⟨Rect.unit (s := S12x128) ![0, 0] S12x128.size inb_S12x128_S12x128_0_0, k0_pay1 (F := F) v w⟩] = outV m c := by
  subst hv hw; exact store_out _ _

end Cert.KernelIdeal.Run
-- ==== Proof.KernelIdealBody.lean ====
/-
  One device's run of the kernel: from its block of the argument, its buffers, its semaphores at rest and its part of the
  exchange's bookkeeping, the body ends with the result staged, every buffer back and every semaphore at zero.
-/
module

public import proofs.«01_k».proof.Proof.KernelIdealSums

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ
variable (m : (ℓ : Loc nD τ sig) → Buf (Elt F) ℓ)

/-- The body has no loop of its own. -/
abbrev 𝒱₀ : Variants := Variants.none

/-- The cells device `c` touches: its own five, and three of the mate's. -/
def invs (K : GSem nD τ sig → ℕ) (c : Dev nD) : sProp 𝕄 :=
  iprop(cellInv ER (rd m) (K (barCell c)) (barCell c)
    ∗ cellInv ER (rd m) (K (send0 c)) (send0 c) ∗ cellInv ER (rd m) (K (send1 c)) (send1 c)
    ∗ cellInv ER (rd m) (K (recv0 c)) (recv0 c) ∗ cellInv ER (rd m) (K (recv1 c)) (recv1 c)
    ∗ cellInv ER (rd m) (K (barCell (peer c))) (barCell (peer c))
    ∗ cellInv ER (rd m) (K (recv0 (peer c))) (recv0 (peer c)) ∗ cellInv ER (rd m) (K (recv1 (peer c))) (recv1 (peer c)))

/-- The recorded invariants can be used again and again. -/
instance invs_persistent (K : GSem nD τ sig → ℕ) (c : Dev nD) : BI.Persistent (invs m K c) := by unfold invs; infer_instance

/-- The duties device `c` pays: the signal and two arrivals at the mate, and the two departures at home. -/
def toks (c : Dev nD) : sProp 𝕄 :=
  iprop(dutyTok ER (barCell (peer c)) 0 () ∗ dutyTok ER (recv0 (peer c)) 0 () ∗ dutyTok ER (recv1 (peer c)) 0 ()
    ∗ dutyTok ER (send0 c) 0 () ∗ dutyTok ER (send1 c) 0 ())

/-- The exchange's bookkeeping when the kernel starts: its own cells at their first round, and what it has to pay. -/
def opened (K : GSem nD τ sig → ℕ) (c : Dev nD) : sProp 𝕄 :=
  iprop(invs m K c
    ∗ atPos ER (barCell c) 0 ∅ 0
    ∗ (atPos ER (send0 c) 0 ∅ 0 ∗ atPos ER (send1 c) 0 ∅ 0 ∗ atPos ER (recv0 c) 0 ∅ 0 ∗ atPos ER (recv1 c) 0 ∅ 0)
    ∗ (reached ER (send0 c) 0 ∗ reached ER (send1 c) 0 ∗ reached ER (recv0 c) 0 ∗ reached ER (recv1 c) 0)
    ∗ reached ER (barCell (peer c)) 0
    ∗ toks c)

/-- The local copies' semaphores, at rest. -/
def copies (c : Dev nD) : sProp 𝕄 :=
  iprop(semVal ((c : Thread nD τ), .dma copyS0) 0
    ∗ semVal ((c : Thread nD τ), .dma copyS1) 0
    ∗ semVal ((c : Thread nD τ), .dma copyS2) 0
    ∗ semVal ((c : Thread nD τ), .dma copyS3) 0
    ∗ semVal ((c : Thread nD τ), .dma copyS4) 0
    ∗ semVal ((c : Thread nD τ), .dma copyS5) 0)

/-- What the kernel starts from. -/
def bodyPre (K : GSem nD τ sig → ℕ) (c : Dev nD) (W : Waits sig Unit) : sProp 𝕄 :=
  iprop(opened m K c ∗ (cred (tallyAt (barCell c) () 1) ∗ cred (tallyAt (recv0 c) () N) ∗ cred (tallyAt (recv1 c) () N)) ∗ levAts L lv
    ∗ (xM.view.loc (c : Thread nD τ) ↦{fullShare} xin m c)
    ∗ (∃ f, bufM.view.loc (c : Thread nD τ) ↦{fullShare} f)
    ∗ (∃ f, accM.view.loc (c : Thread nD τ) ↦{fullShare} f)
    ∗ (∃ f, comM.view.loc (c : Thread nD τ) ↦{fullShare} f)
    ∗ (∃ f, outM.view.loc (c : Thread nD τ) ↦{fullShare} f)
    ∗ copies c
    ∗ owes (c : Thread nD τ) (O₀ c) W)

/-- What the kernel leaves: every counter at zero, the argument's block unchanged, the result staged, nothing owed. -/
def bodyPost (c : Dev nD) : sProp 𝕄 :=
  iprop(semVal (barCell c) 0
    ∗ (semVal (send0 c) 0 ∗ semVal (send1 c) 0 ∗ semVal (recv0 c) 0 ∗ semVal (recv1 c) 0)
    ∗ copies c
    ∗ (xM.view.loc (c : Thread nD τ) ↦{fullShare} xin m c)
    ∗ (∃ f, bufM.view.loc (c : Thread nD τ) ↦{fullShare} f)
    ∗ (∃ f, accM.view.loc (c : Thread nD τ) ↦{fullShare} f)
    ∗ (∃ f, comM.view.loc (c : Thread nD τ) ↦{fullShare} f)
    ∗ (outM.view.loc (c : Thread nD τ) ↦{fullShare} outV m c)
    ∗ ∃ W, owes (c : Thread nD τ) (0 : CellTallies nD τ sig Unit) W)

/-- A cell at the end of its one round closes: its counter is back, at zero. -/
theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

/-- The staging buffer after the last store, named. -/
theorem out_pts (c : Dev nD) (f : (cc0_stg0_0 : Ref sig .tc).ty.Contents (Elt F)) (v w : Vec F S12x128 .f32) :
    iprop((outM.view.loc (c : Thread nD τ) ↦{fullShare} outM.view.writes (Elt F) f
        [⟨Rect.unit (s := S12x128) ![0, 0] S12x128.size inb_S12x128_S12x128_0_0, k0_pay1 (F := F) v w⟩]) ∗ ⌜v = accV m c ∧ w = accV m (peer c)⌝)
      ⊢ (outM.view.loc (c : Thread nD τ) ↦{fullShare} outV m c : sProp 𝕄) := by
  iintro ⟨H, %h⟩
  rw [out_val m c f v w h.1 h.2]
  iexact H

/-- What the signal to the mate hands over: the device's own landing area, and that its arrival cells are open. -/
theorem payload_barP (c : Dev nD) (u : Unit) : (rd (F := F) m).payload (barCell (peer c)) 0 u
    = iprop((∃ f, pts comLo c f) ∗ (∃ f, pts comHi c f) ∗ reached ER (recv0 c) 0 ∗ reached ER (recv1 c) 0) := by
  rw [payload_bar]; unfold barPay; rw [peer_peer]

attribute [local sl_rounds] duties_bar duties_send0 duties_send1 duties_recv0 duties_recv1 amount_bar amount_dma
  payload_barP payload_send0 payload_send1 payload_recv0 payload_recv1 expect_bar

set_option maxHeartbeats 4000000 in
/-- The body runs from `bodyPre` to `bodyPost`, on every device. -/
theorem run (K : GSem nD τ sig → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ
        (cc0_body xM (Memref.isWhole_whole _) outM (Memref.isWhole_whole _) bufM (Memref.isWhole_whole _) accM (Memref.isWhole_whole _) comM (Memref.isWhole_whole _) cc0_scratch3 cc0_scratch4 cc0_scratch5) Kt := by
  rw [cc0_body_eq_skeleton]
  have hd1 := dev1_eq c
  have hmw0 : (levAts L lv : sProp 𝕄) ⊢ MayWait (c : Thread nD τ) (.dma copyS0) () (O₂ c) :=
    mayWait_of c _ _ 0 (le_of_eq (lv_low c _ () (by decide))) (fun g u h => ⟨(O₂_lv h).1, by have := (O₂_lv h).2; omega⟩)
  have hmw1 : (levAts L lv : sProp 𝕄) ⊢ MayWait (c : Thread nD τ) (.dma copyS1) () (O₂ c) :=
    mayWait_of c _ _ 0 (le_of_eq (lv_low c _ () (by decide))) (fun g u h => ⟨(O₂_lv h).1, by have := (O₂_lv h).2; omega⟩)
  have hmw2 : (levAts L lv : sProp 𝕄) ⊢ MayWait (c : Thread nD τ) (.dma copyS2) () (O₂ c) :=
    mayWait_of c _ _ 0 (le_of_eq (lv_low c _ () (by decide))) (fun g u h => ⟨(O₂_lv h).1, by have := (O₂_lv h).2; omega⟩)
  have hmwb : (levAts L lv : sProp 𝕄) ⊢ MayWait (c : Thread nD τ) (.reg barS) () (O₂ c) :=
    mayWait_of c _ _ 1 (le_of_eq (lv_bar c ())) (fun g u h => O₂_lv h)
  have hmw3 : (levAts L lv : sProp 𝕄) ⊢ MayWait (c : Thread nD τ) (.dma copyS3) () (tallyAt (recv1 (peer c)) () N) :=
    mayWait_of c _ _ 0 (le_of_eq (lv_low c _ () (by decide))) (fun g u h => ⟨(O₁_lv h).1, by have := (O₁_lv h).2; omega⟩)
  have hmw4 : (levAts L lv : sProp 𝕄) ⊢ MayWait (c : Thread nD τ) (.dma copyS4) () (tallyAt (recv1 (peer c)) () N) :=
    mayWait_of c _ _ 0 (le_of_eq (lv_low c _ () (by decide))) (fun g u h => ⟨(O₁_lv h).1, by have := (O₁_lv h).2; omega⟩)
  have hmw5 : (levAts L lv : sProp 𝕄) ⊢ MayWait (c : Thread nD τ) (.dma copyS5) () (tallyAt (recv1 (peer c)) () N) :=
    mayWait_of c _ _ 0 (le_of_eq (lv_low c _ () (by decide))) (fun g u h => ⟨(O₁_lv h).1, by have := (O₁_lv h).2; omega⟩)
  unfold bodyPre opened invs toks copies O₀
  iintro ⟨⟨⟨⟨#HIb, #HIs0, #HIs1, #HIr0, #HIr1, #HIbP, #HIr0P, #HIr1P⟩, HatB, ⟨HatS0, HatS1, HatR0, HatR1⟩, ⟨#HrS0, #HrS1, #HrR0, #HrR1⟩, #HrP, ⟨HtB, HtR0, HtR1, HtS0, HtS1⟩⟩,
    ⟨HcB, HcR0, HcR1⟩, #Hlev, Hx, ⟨%fb, Hbuf⟩, ⟨%fa, Hacc⟩, ⟨%fc, Hcom⟩, ⟨%fo, Hout⟩, ⟨Hq0, Hq1, Hq2, Hq3, Hq4, Hq5⟩, HO⟩, Hk⟩
  icases (com_split c fc) $$ Hcom with ⟨HcLo, HcHi, HcRest⟩
  icases (Entails.of_eq (x_eq c (xin m c))) $$ Hx with ⟨Hx0, Hx1, Hx2, Hx3, Hx4, Hx5⟩
  icases (Entails.of_eq (buf_eq c fb)) $$ Hbuf with ⟨Hs0, Hs1, Hs2, Hs3, Hs4, Hs5⟩
  unfold cc0_body_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  -- the mate is signalled, the six copies started, the first three waited for and summed; the mate's signal is waited for
  sl_exec
  ihave Hp := (Entails.of_eq (payload_bar m c ())) $$ HatB_pay1
  unfold barPay
  icases Hp with ⟨⟨%flo, HdLo⟩, ⟨%fhi, HdHi⟩, #HrR0P, #HrR1P⟩
  ihave Hsl := (sums_lo m c fa _ _ _) $$ [Hacc]
  · isplitl [Hacc]
    · iexact Hacc
    · ipureintro
      exact ⟨load_blk m c 0 (by decide) 0 rfl _ _ _ _ rfl, load_blk m c 1 (by decide) 256 rfl _ _ _ _ rfl, load_blk m c 2 (by decide) 512 rfl _ _ _ _ rfl⟩
  icases Hsl with ⟨HaLo, ⟨%fh, HaHi⟩⟩
  -- the first half leaves for the mate
  iapply (Rounds.wp_send_pointsTo 𝒱₀ ER (rd m) (c : Thread nD τ) none (c' := (peer c : Thread nD τ)) (src := accLo) (dst := comLo)
      (sS := .dma sendS0) (sem := .dma recvS0) (q := fullShare) (fs := accV m c) (κ₁ := K (send0 c)) (κ₂ := K (recv0 (peer c)))
      (r₁ := 0) (r₂ := 0) (d₁ := ()) (d₂ := ()) (fd := flo)
      (by rw [duties_send0]; exact Finset.mem_singleton_self _) (by rw [duties_recv0]; exact Finset.mem_singleton_self _)
      () () N rfl (amount_dma m c _ ()) (amount_dma m (peer c) _ ()) (tallyAt (recv1 (peer c)) () N) rfl
      (by rw [payload_send0])
      (by rw [payload_recv0]; exact landLo m c flo)) $$ [HaLo HdLo HO HtS0 HtR0]
  · isplitr; · iexact HIs0
    isplitr; · iexact HIr0P
    isplitl [HaLo]; · iexact HaLo
    isplitl [HdLo]; · iexact HdLo
    isplitl [HO]; · iexact HO
    isplitl [HtS0]; · iexact HtS0
    isplitr; · iexact HrS0
    isplitl [HtR0]; · iexact HtR0
    iexact HrR0P
  iintro ⟨HcS0, HO⟩
  -- the last three copies are waited for and summed
  sl_exec
  ihave HaHi' := (sums_hi m c fh _ _ _) $$ [HaHi]
  · isplitl [HaHi]
    · iexact HaHi
    · ipureintro
      exact ⟨load_blk m c 3 (by decide) 768 rfl _ _ _ _ rfl, load_blk m c 4 (by decide) 1024 rfl _ _ _ _ rfl, load_blk m c 5 (by decide) 1280 rfl _ _ _ _ rfl⟩
  -- the second half leaves
  iapply (Rounds.wp_send_pointsTo 𝒱₀ ER (rd m) (c : Thread nD τ) none (c' := (peer c : Thread nD τ)) (src := accHi) (dst := comHi)
      (sS := .dma sendS1) (sem := .dma recvS1) (q := fullShare) (fs := accV m c) (κ₁ := K (send1 c)) (κ₂ := K (recv1 (peer c)))
      (r₁ := 0) (r₂ := 0) (d₁ := ()) (d₂ := ()) (fd := fhi)
      (by rw [duties_send1]; exact Finset.mem_singleton_self _) (by rw [duties_recv1]; exact Finset.mem_singleton_self _)
      () () N rfl (amount_dma m c _ ()) (amount_dma m (peer c) _ ()) 0 (by rw [zero_add])
      (by rw [payload_send1])
      (by rw [payload_recv1]; exact landHi m c fhi)) $$ [HaHi' HdHi HO HtS1 HtR1]
  · isplitr; · iexact HIs1
    isplitr; · iexact HIr1P
    isplitl [HaHi']; · iexact HaHi'
    isplitl [HdHi]; · iexact HdHi
    isplitl [HO]; · iexact HO
    isplitl [HtS1]; · iexact HtS1
    isplitr; · iexact HrS1
    isplitl [HtR1]; · iexact HtR1
    iexact HrR1P
  iintro ⟨HcS1, HO⟩
  -- both departures and both arrivals are waited for
  sl_exec
  ihave Hacc := (acc_join m c) $$ [HatS0_pay1 HatS1_pay1]
  · isplitl [HatS0_pay1]
    · iexact HatS0_pay1
    · iexact HatS1_pay1
  ihave Hcom := (com_join m c fc) $$ [HatR0_pay1 HatR1_pay1 HcRest]
  · isplitl [HatR0_pay1]
    · iexact HatR0_pay1
    isplitl [HatR1_pay1]
    · iexact HatR1_pay1
    · iexact HcRest
  -- the result is stored
  sl_exec
  ihave Hout' := (out_pts m c fo _ _) $$ [Hout]
  · isplitl [Hout]
    · iexact Hout
    · ipureintro; exact ⟨load_acc _, load_com m c fc⟩
  -- the five cells are closed: their counters back at zero
  rw [wp_ret]
  imod (close m (K (barCell c)) (barCell c)) $$ [HatB] with HB
  · isplitr; · iexact HIb
    iexact HatB
  imod (close m (K (send0 c)) (send0 c)) $$ [HatS0] with HS0
  · isplitr; · iexact HIs0
    iexact HatS0
  imod (close m (K (send1 c)) (send1 c)) $$ [HatS1] with HS1
  · isplitr; · iexact HIs1
    iexact HatS1
  imod (close m (K (recv0 c)) (recv0 c)) $$ [HatR0] with HR0
  · isplitr; · iexact HIr0
    iexact HatR0
  imod (close m (K (recv1 c)) (recv1 c)) $$ [HatR1] with HR1
  · isplitr; · iexact HIr1
    iexact HatR1
  imodintro
  iapply Hk
  unfold bodyPost copies
  isplitl [HB]; · iexact HB
  isplitl [HS0 HS1 HR0 HR1]
  · isplitl [HS0]; · iexact HS0
    isplitl [HS1]; · iexact HS1
    isplitl [HR0]; · iexact HR0
    iexact HR1
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hx0 Hx1 Hx2 Hx3 Hx4 Hx5]
  · iapply (Entails.of_eq (x_eq c (xin m c)).symm)
    isplitl [Hx0]; · iexact Hx0
    isplitl [Hx1]; · iexact Hx1
    isplitl [Hx2]; · iexact Hx2
    isplitl [Hx3]; · iexact Hx3
    isplitl [Hx4]; · iexact Hx4
    iexact Hx5
  isplitl [Hs0 Hs1 Hs2 Hs3 Hs4 Hs5]
  · iapply (buf_join c fb)
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexists _; iexact Hs5
  isplitl [Hacc]; · iexists _; iexact Hacc
  isplitl [Hcom]; · iexists _; iexact Hcom
  isplitl [Hout']; · iexact Hout'
  iexists _; iexact HO

end Cert.KernelIdeal.Run
-- ==== Proof.KernelIdealRegion.lean ====
/-
  The kernel's call as one segment of @main: what enters it, what its body's obligation is, what it leaves.
-/
module

public import proofs.«01_k».proof.Proof.KernelIdealBody
public import Idealize.ShloMosaic.Lib.Pipeline.ValueKit
public import Idealize.ShloMosaic.Harness.Basic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F] [Named F]
local notation "𝕄" => MT nD τ sig Unit (Elt F) ℕ UU ℕ
variable (m : (ℓ : Loc nD τ sig) → Buf (Elt F) ℓ)

/-! ## The buffers of @main -/

/-- The array the kernel writes back to. -/
abbrev rOut : DevRef τ sig := Proc.devRef .tc main_v1
/-- The argument. -/
abbrev rArg : DevRef τ sig := Proc.devRef .tc main_arg0
/-- @main's result. -/
abbrev rRes : DevRef τ sig := Proc.devRef .tc main_v2

/-- Every buffer of @main. -/
def bufs : Finset (DevRef τ sig) := {rOut, rArg, rRes}
/-- Those the kernel addresses itself, or leaves alone. -/
def others : Finset (DevRef τ sig) := {rArg, rRes}

/-- One buffer, held whole. -/
abbrev pt (c : Dev nD) (b : Ref sig .tc) (f : Buf (Elt F) ((c : Thread nD τ).loc b)) : sProp 𝕄 := ((c : Thread nD τ).loc b) ↦{fullShare} f

/-- The buffers one by one: all three; -/
theorem bufs_eq (c : Dev nD) (V : Valuation τ sig (Elt F)) : (StableHlo.held (c : Thread nD τ) bufs V : sProp 𝕄)
    = iprop(pt c main_v1 (V rOut) ∗ pt c main_arg0 (V rArg) ∗ pt c main_v2 (V rRes)) := by
  unfold StableHlo.held
  rw [bigSep_eq_bigSepL_of_eq [rOut, rArg, rRes] (by decide) (by decide)]
  rfl
/-- the two beside the kernel's output; -/
theorem others_eq (c : Dev nD) (V : Valuation τ sig (Elt F)) : (StableHlo.held (c : Thread nD τ) others V : sProp 𝕄)
    = iprop(pt c main_arg0 (V rArg) ∗ pt c main_v2 (V rRes)) := by
  unfold StableHlo.held
  rw [bigSep_eq_bigSepL_of_eq [rArg, rRes] (by decide) (by decide)]
  rfl
/-- and the kernel's output. -/
theorem out_eq (c : Dev nD) (V : Valuation τ sig (Elt F)) :
    (StableHlo.held (c : Thread nD τ) (Pipeline.arrRefs (τ := τ) (pcfgs (F := F) 0).spec) V : sProp 𝕄) = pt c main_v1 (V rOut) := by
  have h : Pipeline.arrRefs (τ := τ) spec0 = {rOut} := by decide
  unfold StableHlo.held
  rw [show Pipeline.arrRefs (τ := τ) (pcfgs (F := F) 0).spec = {rOut} from h, BI.bigSep_singleton]

/-- What the launch deals of a device's buffers is these three. -/
theorem unscoped_held (c : Dev nD) (V : Valuation τ sig (Elt F)) :
    (unscopedBufs c (fun b => V b) : sProp 𝕄) = StableHlo.held (c : Thread nD τ) bufs V := by
  unfold unscopedBufs StableHlo.held
  rw [show bufs = ((Finset.univ.filter fun b : Ref sig .tc => ¬ b.isScoped).map ⟨Proc.devRef .tc, Proc.devRef_injective .tc⟩ : Finset (DevRef τ sig)) from by decide,
    BI.bigSep_map]
  rfl

/-! ## The kernel's own semaphores -/

/-- Six for the local copies, two for the departures, two for the arrivals. -/
abbrev osem : Fin 10 → SemLoc sig := fun
  | 0 => .dma copyS0 | 1 => .dma copyS1 | 2 => .dma copyS2 | 3 => .dma copyS3 | 4 => .dma copyS4 | 5 => .dma copyS5
  | 6 => .dma sendS0 | 7 => .dma sendS1 | 8 => .dma recvS0 | 9 => .dma recvS1

/-- They are the kernel's scratch semaphores, each once. -/
theorem osem_facts : Pipeline.OwnSemFacts spec0 osem := by decide

/-- At rest: the six, and the four. -/
theorem ownSems_eq (c : Dev nD) : (Pipeline.ownSems0 osem c : sProp 𝕄)
    = iprop(copies c ∗ (semVal (send0 c) 0 ∗ semVal (send1 c) 0 ∗ semVal (recv0 c) 0 ∗ semVal (recv1 c) 0)) := by
  unfold Pipeline.ownSems0 copies
  rw [bigSep_univ_eq_bigSepL [0, 1, 2, 3, 4, 5, 6, 7, 8, 9] (by decide) (by decide)]
  refine (show _ = iprop(semVal ((c : Thread nD τ), .dma copyS0) 0 ∗ semVal ((c : Thread nD τ), .dma copyS1) 0
    ∗ semVal ((c : Thread nD τ), .dma copyS2) 0 ∗ semVal ((c : Thread nD τ), .dma copyS3) 0
    ∗ semVal ((c : Thread nD τ), .dma copyS4) 0 ∗ semVal ((c : Thread nD τ), .dma copyS5) 0
    ∗ semVal (send0 c) 0 ∗ semVal (send1 c) 0 ∗ semVal (recv0 c) 0 ∗ semVal (recv1 c) 0) from rfl).trans ?_
  have e (P Q R : sProp 𝕄) : iprop((P ∗ Q) ∗ R) = iprop(P ∗ Q ∗ R) := BI.equiv_iff.mp ⟨BI.sep_assoc, BI.sep_assoc'⟩
  simp only [e]

/-! ## The proof data of the call -/

/-- A device's buffers as launched; -/
abbrev V₀ (c : Dev nD) : Valuation τ sig (Elt F) := fun b => m (c, b)
/-- after the kernel; -/
def V₁ (c : Dev nD) : Valuation τ sig (Elt F) := Function.update (V₀ m c) rOut (outV m c)
/-- after the reshape of its output. -/
def V₂ (c : Dev nD) : Valuation τ sig (Elt F) := StableHlo.after hostOps1 (V₁ m c)

/-- The scratch buffers, at contents not chosen. -/
def scratch (c : Dev nD) : sProp 𝕄 :=
  iprop((∃ f, bufM.view.loc (c : Thread nD τ) ↦{fullShare} f) ∗ (∃ f, accM.view.loc (c : Thread nD τ) ↦{fullShare} f)
    ∗ (∃ f, comM.view.loc (c : Thread nD τ) ↦{fullShare} f))

/-- The units the mate's payments are announced as. -/
def dueIn (c : Dev nD) : sProp 𝕄 :=
  iprop(cred (tallyAt (barCell c) () 1) ∗ cred (tallyAt (recv0 c) () N) ∗ cred (tallyAt (recv1 c) () N))

/-- The exchange's bookkeeping before the kernel starts: its four scratch cells are not open yet. -/
def ghost (K : GSem nD τ sig → ℕ) (c : Dev nD) : sProp 𝕄 :=
  iprop(invs m K c ∗ atPos ER (barCell c) 0 ∅ 0
    ∗ (openTok ER (send0 c) ∗ openTok ER (send1 c) ∗ openTok ER (recv0 c) ∗ openTok ER (recv1 c))
    ∗ reached ER (barCell (peer c)) 0 ∗ toks c)

/-- What the launch keeps for the kernel; -/
def Tk (c : Dev nD) : sProp 𝕄 := iprop((∃ K, ghost m K c) ∗ dueIn c)
/-- the same once the kernel's cells are open, its copies' semaphores beside; -/
def Xk (c : Dev nD) : sProp 𝕄 := iprop((∃ K, opened m K c) ∗ dueIn c ∗ copies c ∗ levAts L lv)
/-- what the kernel leaves of it. -/
def Yk (c : Dev nD) : sProp 𝕄 := semVal (barCell c) 0

/-- The body's invariant before its one point; -/
def Φ₀ (c : Dev nD) : sProp 𝕄 :=
  iprop(Xk m c ∗ (pt c main_arg0 (V₀ m c rArg) ∗ pt c main_v2 (V₀ m c rRes)) ∗ scratch c ∗ ∃ r, prngReg c r)
/-- and after it. -/
def Φ₁ (c : Dev nD) : sProp 𝕄 :=
  iprop(Yk c ∗ (copies c ∗ (semVal (send0 c) 0 ∗ semVal (send1 c) 0 ∗ semVal (recv0 c) 0 ∗ semVal (recv1 c) 0))
    ∗ (pt c main_arg0 (V₀ m c rArg) ∗ pt c main_v2 (V₀ m c rRes)) ∗ scratch c ∗ ∃ r, prngReg c r)

/-- The call's proof data: the staged result, the invariant, what the device owes. -/
def dat (c : Dev nD) : Dat τ (Elt F) Unit ℕ UU ℕ cfg0 c where
  A w := V₀ m c (Proc.devRef .tc (Pipeline.arrRef spec0 w))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The one configuration of the call. -/
abbrev adm : (p : Fin 1) → (pcfgs (F := F) p).Adm := fun p => (cfgs p).toPCfg_adm
/-- The proof data, by call. -/
def pdats : (p : Fin 1) → (c : Dev nD) → Dat τ (Elt F) Unit ℕ UU ℕ (Pipeline.pin (pcfgs (F := F)) adm p) c
  | 0 => dat m

/-- The output array ends holding the staged result. -/
theorem arr_end (c : Dev nD) : (dat m c).arrAt 0 cfg0.N = outV m c := by
  refine (dat m c).arrAt_eq_of_after_last 0 t0_0 (by decide +kernel) _ fun j => ?_
  blk_simp
  rfl

/-- A tally owed before a point, in the form the loop keeps it. -/
theorem owesAt_intro (c : Dev nD) (t : Fin (cfg0.N + 1)) (O : CellTallies nD τ sig Unit) (h : (dat m c).owed t = O) (W : Waits sig Unit) :
    (owes (c : Thread nD τ) O W : sProp 𝕄) ⊢ (dat m c).owesAt () t := by
  subst h
  unfold Dat.owesAt Pipeline.owesWithin
  iintro HO; iexists W
  isplitr; · ipureintro; exact fun _ _ => Or.inl trivial
  iexact HO
/-- And out of that form. -/
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  subst h
  unfold Dat.owesAt Pipeline.owesWithin
  iintro ⟨%W, -, HO⟩; iexists W; iexact HO

/-- A staging buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- Ownership of a whole buffer, unfolded. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The call's body meets its obligation: `run` at the one point. -/
theorem obligation (c : Dev nD) : BodyObligation (dat m c) defs₀ 𝒱₀ () Set.univ := fun t => by
  rw [fin_N0 t, bigSep_W0, bigSep_W0]
  show iprop(Φ₀ m c ∗ (dat m c).owesAt () t0_0.castSucc ∗ ∃ d, owns (c : Thread nD τ) outM fullShare ((dat m c).before 0 t0_0 d))
    ⊢ wp frame (wpE (defs₀ (F := F)) 𝒱₀ c none) Set.univ
        (cc0_body xM (Memref.isWhole_whole _) outM (Memref.isWhole_whole _) bufM (Memref.isWhole_whole _) accM (Memref.isWhole_whole _)
          comM (Memref.isWhole_whole _) cc0_scratch3 cc0_scratch4 cc0_scratch5)
        (fun _ => iprop(Φ₁ m c ∗ (dat m c).owesAt () t0_0.succ ∗ owns (c : Thread nD τ) outM fullShare (outV m c)))
  simp only [owns_stg]
  unfold Φ₀ Xk scratch dueIn
  iintro ⟨⟨⟨⟨%K, Hg⟩, Hdue, Hcop, Hlev⟩, ⟨Hx, Hres⟩, ⟨Hb, Ha, Hc⟩, Hreg⟩, HO, ⟨%d, %f, -, Hout⟩⟩
  icases (owesAt_elim m c t0_0.castSucc (O₀ c) rfl) $$ HO with ⟨%W, HO⟩
  iapply (run m K c W _)
  isplitl [Hg Hdue Hcop Hlev Hx Hb Ha Hc HO Hout]
  · unfold bodyPre
    isplitl [Hg]; · iexact Hg
    isplitl [Hdue]; · iexact Hdue
    isplitl [Hlev]; · iexact Hlev
    isplitl [Hx]; · iexact Hx
    isplitl [Hb]; · iexact Hb
    isplitl [Ha]; · iexact Ha
    isplitl [Hc]; · iexact Hc
    isplitl [Hout]; · iexists f; iexact Hout
    isplitl [Hcop]; · iexact Hcop
    iexact HO
  unfold bodyPost Φ₁ Yk scratch
  iintro ⟨Hbar, Hss, Hcop, Hx, Hb, Ha, Hc, Hout, ⟨%W', HO⟩⟩
  isplitl [Hbar Hss Hcop Hx Hres Hb Ha Hc Hreg]
  · isplitl [Hbar]; · iexact Hbar
    isplitl [Hcop Hss]; · isplitl [Hcop] <;> iassumption
    isplitl [Hx Hres]
    · isplitl [Hx]; · iexact Hx
      iexact Hres
    isplitl [Hb Ha Hc]
    · isplitl [Hb]; · iexact Hb
      isplitl [Ha] <;> iassumption
    iexact Hreg
  isplitl [HO]; · iapply (owesAt_intro m c t0_0.succ 0 rfl W'); iexact HO
  iexists _
  isplitr; · ipureintro; rfl
  iexact Hout

/-! ## The call as a region -/

/-- Opening the four scratch cells as the kernel starts. -/
theorem hopen (c : Dev nD) : iprop(Tk m c ∗ Pipeline.ownSems0 osem c ∗ levAts L lv) ⊢ (|={Set.univ}=> Xk m c : sProp 𝕄) := by
  rw [ownSems_eq]
  unfold Tk Xk ghost
  iintro ⟨⟨⟨%K, #HI, HatB, ⟨Ho0, Ho1, Ho2, Ho3⟩, #HrP, Ht⟩, Hdue⟩, ⟨Hcop, Hs0, Hs1, Hs2, Hs3⟩, #Hlev⟩
  ihave #Hinv := (show invs m K c ⊢ iprop(cellInv ER (rd m) (K (send0 c)) (send0 c) ∗ cellInv ER (rd m) (K (send1 c)) (send1 c)
      ∗ cellInv ER (rd m) (K (recv0 c)) (recv0 c) ∗ cellInv ER (rd m) (K (recv1 c)) (recv1 c)) from by
    unfold invs
    iintro ⟨-, #H0, #H1, #H2, #H3, -⟩
    isplitr; · iexact H0
    isplitr; · iexact H1
    isplitr; · iexact H2
    iexact H3) $$ HI
  icases Hinv with ⟨#H0, #H1, #H2, #H3⟩
  imod (Rounds.cell_open ER (rd m) (g := send0 c) (Set.mem_univ (K (send0 c)))) $$ [Ho0 Hs0] with ⟨Hat0, #Hr0⟩
  · isplitr; · iexact H0
    isplitl [Ho0] <;> iassumption
  imod (Rounds.cell_open ER (rd m) (g := send1 c) (Set.mem_univ (K (send1 c)))) $$ [Ho1 Hs1] with ⟨Hat1, #Hr1⟩
  · isplitr; · iexact H1
    isplitl [Ho1] <;> iassumption
  imod (Rounds.cell_open ER (rd m) (g := recv0 c) (Set.mem_univ (K (recv0 c)))) $$ [Ho2 Hs2] with ⟨Hat2, #Hr2⟩
  · isplitr; · iexact H2
    isplitl [Ho2] <;> iassumption
  imod (Rounds.cell_open ER (rd m) (g := recv1 c) (Set.mem_univ (K (recv1 c)))) $$ [Ho3 Hs3] with ⟨Hat3, #Hr3⟩
  · isplitr; · iexact H3
    isplitl [Ho3] <;> iassumption
  imodintro
  isplitl [HatB Hat0 Hat1 Hat2 Hat3 Ht]
  · iexists K; unfold opened
    isplitr; · iexact HI
    isplitl [HatB]; · iexact HatB
    isplitl [Hat0 Hat1 Hat2 Hat3]
    · isplitl [Hat0]; · iexact Hat0
      isplitl [Hat1]; · iexact Hat1
      isplitl [Hat2] <;> iassumption
    isplitr
    · isplitr; · iexact Hr0
      isplitr; · iexact Hr1
      isplitr; · iexact Hr2
      iexact Hr3
    isplitr; · iexact HrP
    iexact Ht
  isplitl [Hdue]; · iexact Hdue
  isplitl [Hcop]; · iexact Hcop
  iexact Hlev

/-- Entering the body: the scratch, the buffers beside the result, the opened exchange. -/
theorem hin (c : Dev nD) : iprop(Pipeline.scopedRest (Pipeline.pin (pcfgs (F := F)) adm 0).spec c ∗ (∃ r, prngReg c r)
    ∗ StableHlo.held (c.tc : Thread nD τ) others (V₀ m c) ∗ Xk m c) ⊢ (pdats m 0 c).Φ 0 := by
  rw [show (pdats m 0 c).Φ 0 = Φ₀ m c from rfl, scopedRest0_eq, others_eq]
  unfold Φ₀ scratch
  iintro ⟨Hs, Hp, Ho, HX⟩
  isplitl [HX]; · iexact HX
  isplitl [Ho]; · iexact Ho
  isplitl [Hs]; · iexact Hs
  iexact Hp

/-- Outside the result the kernel changes nothing. -/
theorem V₁_ne (c : Dev nD) {b : DevRef τ sig} (h : b ≠ rOut) : V₁ m c b = V₀ m c b := Function.update_of_ne h _ _
/-- The result, after it. -/
theorem V₁_out (c : Dev nD) : V₁ m c rOut = outV m c := Function.update_self _ _ _
/-- The shard is not the result; -/
theorem arg_ne : rArg ≠ rOut := by decide
/-- nor is the reshaped result. -/
theorem res_ne : rRes ≠ rOut := by decide

/-- Leaving the body: everything handed in comes back at rest. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) others (V₁ m c) ∗ Pipeline.ownSems0 osem c ∗ Yk c) := by
  rw [show (pdats m 0 c).Φ (Fin.last _) = Φ₁ m c from rfl, scopedRest0_eq, others_eq, ownSems_eq, V₁_ne m c arg_ne, V₁_ne m c res_ne]
  unfold Φ₁ scratch
  iintro ⟨HY, Hss, Ho, Hs, Hp⟩
  isplitl [Hs]; · iexact Hs
  isplitl [Hp]; · iexact Hp
  isplitl [Ho]; · iexact Ho
  isplitl [Hss] <;> iassumption

/-- What is owed at any point lies above the staging cells' level. -/
theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  have key : ∀ {O : CellTallies nD τ sig Unit}, (O = O₀ c ∨ O = 0) → 0 < O g i → i ∈ L g ∧ (0 : ℕ) < lv g i := by
    rintro O (rfl | rfl) h
    · have := O₀_lv h
      exact ⟨by unfold L; rw [if_pos this.1]; exact Finset.mem_singleton_self _, this.2⟩
    · exact absurd h (Nat.lt_irrefl 0)
  refine key ?_ h
  match t with
  | ⟨0, _⟩ => exact Or.inl rfl
  | ⟨_ + 1, _⟩ => exact Or.inr rfl

/-- The staging cell is no arrival cell. -/
theorem stg_low : ∀ s : Fin (win0 0).nbuf, (win0 0).sem s ≠ recvS0 ∧ (win0 0).sem s ≠ recvS1 := by decide

/-- The launch facts of the one call. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The one window is held whole at the first point's share. -/
theorem share_eq (c : Dev nD) (w : Fin cfg0.W) : (dat m c).share w = fullShare := by
  unfold Dat.share; split <;> rfl

set_option backward.isDefEq.respectTransparency.types false in
/-- The kernel call. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    others others (Finset.Subset.refl _) kitP rfl (fun c => (obligation m c).loose)
    (fun _ => 0) O₀ (fun c => (zero_add _).symm) (fun _ => rfl) (fun _ => rfl) (share_eq m)
    (V₀ m) (V₁ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, fun c w s => by
      match w with
      | ⟨0, _⟩ => exact (lv_low c _ () (stg_low s)).le, fun c t g i h => cutD m c t g i h⟩
    (fun _ => iprop(emp))
    (fun c w => by match w with | ⟨0, _⟩ => rfl) (fun c w => by match w with | ⟨0, _⟩ => exact (arr_end m c).trans (V₁_out m c).symm)

/-! ## The reshape after it -/

/-- The kernel's buffers at a valuation. -/
theorem held_bufs (c : Dev nD) (W : Valuation τ sig (Elt F)) :
    (StableHlo.held (c.tc : Thread nD τ) bufs W : sProp 𝕄)
      = iprop(StableHlo.held (c.tc : Thread nD τ) (Pipeline.arrRefs (τ := τ) (pcfgs (F := F) 0).spec) W
        ∗ StableHlo.held (c.tc : Thread nD τ) others W) := by
  rw [bufs_eq, out_eq, others_eq]

/-- What passes by the reshape: the barrier counter at rest, nothing owed. -/
def Rn (c : Dev nD) : sProp 𝕄 := iprop(semVal (barCell c) 0 ∗ ∃ W, owes (c : Thread nD τ) (0 : CellTallies nD τ sig Unit) W)

/-- The reshape of the kernel's output. -/
def tail : Pipeline.HostSeg (Ix := Unit) (Name := ℕ) (U := UU) (pcfgs (F := F)) defs₀ 𝒱₀ L lv :=
  Pipeline.HostSeg.ofOps _ _ _ _ _ bufs hostOps1
    (fun op h => by rw [List.mem_singleton.mp h]; show ({_, _} : Finset (DevRef τ sig)) ⊆ bufs; decide)
    (fun op h => by rw [List.mem_singleton.mp h]; rfl) (V₁ m) Rn

/-- @main's segments. -/
def segs : List (Pipeline.Seg (pcfgs (F := F)) adm (pdats m) () defs₀ 𝒱₀ L lv) := [.region (reg m), .host (tail m)]

/-- @main is their run. -/
theorem main_eq (c : Dev nD) : main (F := F) c = Pipeline.Seg.run (segs m) :=
  main_segs adm (pdats m) () 𝒱₀ L lv (tail m) (reg m) rfl c

/-- The launch hands the call its buffers, the exchange and what it owes. -/
def T₀ (c : Dev nD) : sProp 𝕄 :=
  iprop(StableHlo.held (c.tc : Thread nD τ) bufs (V₀ m c) ∗ (∃ r, prngReg c r) ∗ Tk m c ∗ ∃ W, owes (c : Thread nD τ) (O₀ c) W)
/-- The program ends holding its buffers, the barrier counter at rest. -/
def Tₙ (c : Dev nD) : sProp 𝕄 := iprop(StableHlo.held (c.tc : Thread nD τ) bufs (V₂ m c) ∗ semVal (barCell c) 0)

/-- Into the call. -/
theorem reg_pre (c : Dev nD) : T₀ m c ⊢ (reg m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) others (V₀ m c) ∗ emp) ∗ Tk m c ∗ ∃ Wd, owes (c : Thread nD τ) (0 + O₀ c) Wd)
  unfold T₀
  rw [held_bufs, zero_add]
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

/-- From the call to the reshape. -/
theorem reg_post (c : Dev nD) : (reg m).post c ⊢ (tail m).pre c := by
  show iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Yk c ∗ ∃ Wd, owes (c : Thread nD τ) (0 : CellTallies nD τ sig Unit) Wd)
    ⊢ iprop(StableHlo.held (c.tc : Thread nD τ) bufs (V₁ m c) ∗ Rn c)
  rw [held_bufs]
  unfold Rn Yk
  iintro ⟨Ha, -, ⟨Ho, -⟩, HY, HO⟩
  isplitl [Ha Ho]; · isplitl [Ha] <;> iassumption
  isplitl [HY] <;> iassumption

/-- From the reshape to the end. -/
theorem tail_post (c : Dev nD) : (tail m).post c ⊢ iprop(Tₙ m c ∗ ∃ W, owes (c : Thread nD τ) (0 : CellTallies nD τ sig Unit) W) := by
  show iprop(StableHlo.held (c.tc : Thread nD τ) bufs (V₂ m c) ∗ Rn c) ⊢ _
  unfold Tₙ Rn
  iintro ⟨Hh, Hb, HO⟩
  isplitr [HO]
  · isplitl [Hh] <;> iassumption
  · iexact HO

/-- The shard is as launched; -/
theorem V₂_arg (c : Dev nD) : V₂ m c rArg = V₀ m c rArg := by
  show StableHlo.after hostOps1 (V₁ m c) (Proc.devRef .tc main_arg0) = _
  unfold hostOps1
  rw [StableHlo.after_cons, StableHlo.after_nil, StableHlo.reshape_result_ne _ _ _ _ _ _ _ (by decide)]
  exact V₁_ne m c arg_ne

/-- the result, the kernel's output reshaped. -/
theorem V₂_res (c : Dev nD) : V₂ m c rRes = shapeCast S1536x1 (outV m c) shapeCasts_S12x128_S1536x1 := by
  show StableHlo.after hostOps1 (V₁ m c) (Proc.devRef .tc main_v2) = _
  unfold hostOps1
  rw [StableHlo.after_cons, StableHlo.after_nil, StableHlo.reshape_result]
  show shapeCast S1536x1 (V₁ m c rOut) shapeCasts_S12x128_S1536x1 = _
  rw [V₁_out]

end Cert.KernelIdeal.Run

end
-- ==== Proof.KernelIdealRun.lean ====
/-
  The launch of the exchange, and the run of @main on the four devices from it.
-/
module

public import proofs.«01_k».proof.Proof.KernelIdealRegion

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F] [Named F]
local notation "𝕄" => MT nD τ sig Unit (Elt F) ℕ UU ℕ
variable (m : (ℓ : Loc nD τ sig) → Buf (Elt F) ℓ) (ρ : Dev nD → PrngReg)

/-! ## The cells and the tokens of the exchange -/

/-- The two departure and two arrival semaphores. -/
abbrev ssem : Fin 4 → SemLoc sig := fun
  | 0 => .dma sendS0 | 1 => .dma sendS1 | 2 => .dma recvS0 | 3 => .dma recvS1
/-- The semaphores a token is minted for, once per device. -/
abbrev tsem : Fin 5 → SemLoc sig := fun
  | 0 => .reg barS | 1 => .dma sendS0 | 2 => .dma sendS1 | 3 => .dma recvS0 | 4 => .dma recvS1
/-- The four are distinct; -/
theorem ssem_inj : Function.Injective ssem := by decide
/-- none of them is the barrier; -/
theorem ssem_ne_bar : ∀ k : Fin 4, ssem k ≠ .reg barS := by decide
/-- and the five are distinct. -/
theorem tsem_inj : Function.Injective tsem := by decide

/-- A device's barrier cell; -/
def barEmb : Dev nD ↪ GSem nD τ sig := ⟨fun c => barCell c, fun _ _ h => congrArg (fun g : GSem nD τ sig => g.1.1) h⟩
/-- its scratch cells; -/
def scEmb : Dev nD × Fin 4 ↪ GSem nD τ sig :=
  ⟨fun ck => ((ck.1 : Thread nD τ), ssem ck.2), fun _ _ h =>
    Prod.ext (congrArg (fun g : GSem nD τ sig => g.1.1) h) (ssem_inj (congrArg Prod.snd h))⟩
/-- its tokens. -/
def tokEmb : Dev nD × Fin 5 ↪ GSem nD τ sig × ℕ × Unit :=
  ⟨fun ck => (((ck.1 : Thread nD τ), tsem ck.2), 0, ()), fun _ _ h =>
    Prod.ext (congrArg (fun t : GSem nD τ sig × ℕ × Unit => t.1.1.1) h)
      (tsem_inj (congrArg (fun t : GSem nD τ sig × ℕ × Unit => t.1.2) h))⟩
/-- The cells alive from the launch; -/
abbrev barCells : Finset (GSem nD τ sig) := Finset.univ.map barEmb
/-- those the kernel opens; -/
abbrev scCells : Finset (GSem nD τ sig) := Finset.univ.map scEmb
/-- one token per payment. -/
abbrev allToks : Finset (GSem nD τ sig × ℕ × Unit) := Finset.univ.map tokEmb

/-- No barrier cell is a scratch cell. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact ssem_ne_bar ck.2 (congrArg Prod.snd h)

/-- A barrier cell is among the cells; -/
theorem bar_mem (c : Dev nD) : barCell c ∈ (barCells ∪ scCells : Finset (GSem nD τ sig)) :=
  Finset.mem_union_left _ (Finset.mem_map_of_mem barEmb (Finset.mem_univ c))
/-- and so is a scratch cell. -/
theorem sc_mem (c : Dev nD) (k : Fin 4) : ((c : Thread nD τ), ssem k) ∈ (barCells ∪ scCells : Finset (GSem nD τ sig)) :=
  Finset.mem_union_right _ (Finset.mem_map_of_mem scEmb (Finset.mem_univ (c, k)))

/-- What the machine's own components start from. -/
def u₀ : UU :=
  (initOf (Pipeline.cells (Pipeline.pin (pcfgs (F := F)) adm) cellOf_inj) (Pipeline.launchToks (Pipeline.pin (pcfgs (F := F)) adm) cellOf_inj),
    (launchOf barCells scCells allToks, 1))

/-- The exchange's part of it, kept by device 0 until it is dealt. -/
def G (c : Dev nD) : sProp 𝕄 := if c = 0 then BI.own (ER (launchOf barCells scCells allToks)) else iprop(emp)

/-- Over all devices that is the part itself. -/
theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-- The starting element falls into the pipeline's part and the exchange's. -/
theorem u₀_split : (ownU (u₀ (F := F)) : sProp 𝕄)
    ⊢ iprop(BI.own (EP (u₀ (F := F)).1) ∗ BI.own (ER (launchOf barCells scCells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (launchOf barCells scCells allToks, (1 : Counters)))))

/-! ## Dealing it -/

/-- What every device may consult: all the cells' invariants, and that each barrier cell is at its first round. -/
def records (κ : GSem nD τ sig → ℕ) : sProp 𝕄 :=
  iprop((bigSep (barCells ∪ scCells) fun g => cellInv ER (rd m) (κ g) g) ∗ bigSep barCells fun g => reached ER g 0)

/-- The records can be used again and again. -/
instance records_persistent (κ : GSem nD τ sig → ℕ) : BI.Persistent (records m κ) := by unfold records; infer_instance

/-- One invariant of them. -/
theorem inv_at (κ : GSem nD τ sig → ℕ) {g : GSem nD τ sig} (hg : g ∈ (barCells ∪ scCells : Finset (GSem nD τ sig))) :
    (bigSep (barCells ∪ scCells) fun g => (cellInv ER (rd m) (κ g) g : sProp 𝕄)) ⊢ cellInv ER (rd m) (κ g) g := bigSep_elim hg
/-- One barrier cell's first round. -/
theorem reached_at (c : Dev nD) : (bigSep barCells fun g => (reached ER g 0 : sProp 𝕄)) ⊢ reached ER (barCell c) 0 :=
  bigSep_elim (Finset.mem_map_of_mem barEmb (Finset.mem_univ c))

/-- What goes to device `c` alone: its barrier position, the rights to open its scratch cells, what it pays with. -/
def linear (c : Dev nD) : sProp 𝕄 :=
  iprop(atPos ER (barCell c) 0 ∅ 0
    ∗ (openTok ER (send0 c) ∗ openTok ER (send1 c) ∗ openTok ER (recv0 c) ∗ openTok ER (recv1 c)) ∗ toks c)

/-- The records and a device's own part make its bookkeeping. -/
theorem ghost_intro (κ : GSem nD τ sig → ℕ) (c : Dev nD) : iprop(records m κ ∗ linear c) ⊢ iprop(∃ K, ghost m K c) := by
  unfold records linear ghost invs
  iintro ⟨⟨#HI, #HR⟩, HaB, Ho, Ht⟩
  iexists κ
  isplitr
  · isplitr; · iapply (inv_at m κ (bar_mem c)); iexact HI
    isplitr; · iapply (inv_at m κ (sc_mem c 0)); iexact HI
    isplitr; · iapply (inv_at m κ (sc_mem c 1)); iexact HI
    isplitr; · iapply (inv_at m κ (sc_mem c 2)); iexact HI
    isplitr; · iapply (inv_at m κ (sc_mem c 3)); iexact HI
    isplitr; · iapply (inv_at m κ (bar_mem (peer c))); iexact HI
    isplitr; · iapply (inv_at m κ (sc_mem (peer c) 2)); iexact HI
    iapply (inv_at m κ (sc_mem (peer c) 3)); iexact HI
  isplitl [HaB]; · iexact HaB
  isplitl [Ho]; · iexact Ho
  isplitr; · iapply (reached_at (F := F) (peer c)); iexact HR
  iexact Ht

/-- The tokens minted for a device's own cells. -/
def minted (c : Dev nD) : sProp 𝕄 :=
  iprop(dutyTok ER (barCell c) 0 () ∗ dutyTok ER (send0 c) 0 () ∗ dutyTok ER (send1 c) 0 () ∗ dutyTok ER (recv0 c) 0 () ∗ dutyTok ER (recv1 c) 0 ())

/-- Four of a thing, one by one; -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl
/-- five. -/
theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]
  rfl

/-- The tokens, device by device. -/
theorem minted_eq : bigSep allToks (fun x => (dutyTok ER x.1 x.2.1 x.2.2 : sProp 𝕄)) = bigSep Finset.univ fun c : Dev nD => minted c := by
  rw [bigSep_map, bigSep_univ_prod]
  exact bigSep_congr fun c _ => by unfold minted; rw [five]; rfl

/-- A barrier and two arrival tokens of each device go to its mate. -/
theorem toks_around : (bigSep Finset.univ fun c : Dev nD => (minted c : sProp 𝕄)) ⊢ bigSep Finset.univ fun c : Dev nD => toks c := by
  unfold minted toks
  simp only [bigSep_sep']
  rw [bigSep_univ_equiv swap (fun c : Dev nD => (dutyTok ER (barCell c) 0 () : sProp 𝕄)),
    bigSep_univ_equiv swap (fun c : Dev nD => (dutyTok ER (recv0 c) 0 () : sProp 𝕄)),
    bigSep_univ_equiv swap (fun c : Dev nD => (dutyTok ER (recv1 c) 0 () : sProp 𝕄))]
  iintro ⟨HB, HS0, HS1, HR0, HR1⟩
  isplitl [HB]; · iexact HB
  isplitl [HR0]; · iexact HR0
  isplitl [HR1]; · iexact HR1
  isplitl [HS0]; · iexact HS0
  iexact HS1

/-- What a device's mate owes it. -/
theorem creds (c : Dev nD) : (Pipeline.launchCred O₀ c : sProp 𝕄) ⊢ dueIn c := by
  rw [show (O₀ : Dev nD → CellTallies nD τ sig Unit) = fun d => ((fun d => tallyAt (recv1 (peer d)) () N + tallyAt (recv0 (peer d)) () N) d)
    + (fun d => tallyAt (barCell (peer d)) () 1) d from rfl, Pipeline.launchCred_add,
    Pipeline.launchCred_add (fun d => tallyAt (recv1 (peer d)) () N) (fun d => tallyAt (recv0 (peer d)) () N)]
  unfold dueIn
  iintro ⟨⟨H1, H0⟩, HB⟩
  isplitl [HB]; · iapply (Pipeline.launchCred_tallyAt (.reg barS) peer peer peer_peer peer_peer () 1 c); iexact HB
  isplitl [H0]; · iapply (Pipeline.launchCred_tallyAt (.dma recvS0) peer peer peer_peer peer_peer () N c); iexact H0
  iapply (Pipeline.launchCred_tallyAt (.dma recvS1) peer peer peer_peer peer_peer () N c); iexact H1

/-- The one counter no kernel allots is the barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's start is not the exchange's. -/
def plain (c : Dev nD) : sProp 𝕄 :=
  iprop(StableHlo.held (c.tc : Thread nD τ) bufs (V₀ m c) ∗ dueIn c ∗ owes (c : Thread nD τ) (O₀ c) ∅ ∗ ∃ r, prngReg c r)

/-- Together they are what the call starts from. -/
theorem T₀_intro (κ : GSem nD τ sig → ℕ) (c : Dev nD) : iprop(records m κ ∗ (linear c ∗ plain m c)) ⊢ T₀ m c := by
  unfold plain T₀ Tk
  iintro ⟨#HR, Hl, Hh, Hd, HO, Hp⟩
  isplitl [Hh]; · iexact Hh
  isplitl [Hp]; · iexact Hp
  isplitr [HO]
  · isplitl [Hl]
    · iapply (ghost_intro m κ c)
      isplitr; · iexact HR
      iexact Hl
    · iexact Hd
  · iexists ∅; iexact HO

/-- A device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [show unscopedBufs c (fun b => m ((c : Thread nD τ).loc b)) = StableHlo.held (c : Thread nD τ) bufs (V₀ m c) from unscoped_held c (V₀ m c),
    unscopedSems_eq]
  unfold plain
  iintro ⟨Hh, Hus, HO, Hcr, Hp, HG⟩
  isplitl [Hh Hcr HO Hp]
  · isplitl [Hh]; · iexact Hh
    isplitl [Hcr]; · iapply (creds (F := F) c); iexact Hcr
    isplitl [HO]; · iexact HO
    iexists (ρ c); iexact Hp
  isplitl [Hus] <;> iassumption

/-- The launch deals every device what its call starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => iprop(openTok ER (send0 c) ∗ openTok ER (send1 c) ∗ openTok ER (recv0 c) ∗ openTok ER (recv1 c))) :=
    Entails.of_eq (by
      rw [bigSep_map, bigSep_univ_prod]
      exact bigSep_congr fun c _ => four (fun k : Fin 4 => (openTok ER ((c : Thread nD τ), ssem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄)
    from bigSep_mono fun c _ => sorted m ρ c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Rounds.fund_launch ER (rd m) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ plain m c)) fun c _ => T₀_intro m κ c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply ho $$ Hopen
    iapply (toks_around (F := F))
    iapply (Entails.of_eq (minted_eq (F := F))) $$ Htok
  · iexact HB

/-! ## The run -/

/-- The only counter left to the program is the barrier's. -/
theorem unscoped_bar : ∀ sm : SemLoc sig, sm.isScoped .tc = false → sm = .reg barS := by decide

set_option backward.isDefEq.respectTransparency.types false in
/-- Every fair run of @main terminates; each device's shard is unchanged, its result is the kernel's output reshaped, and
    every semaphore is back at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v2) = shapeCast S1536x1 (outV m c) shapeCasts_S12x128_S1536x1)
      ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      iintro Hu
      icases (u₀_split (F := F)) $$ Hu with ⟨HP, HX⟩
      imodintro
      isplitl [HP]; · iexact HP
      rw [G_all]; iexact HX)
    (T₀ := T₀ m) (Tₙ := Tₙ m)
    (hch := ⟨fun c => reg_pre m c, fun c => reg_post m c, fun c => tail_post m c⟩)
    (hinit := init m ρ)
    (QY := fun c s => (s.mem ((Memref.whole main_arg0).view.loc (c : Thread nD τ)) = V₂ m c rArg
      ∧ s.mem ((Memref.whole main_v2).view.loc (c : Thread nD τ)) = V₂ m c rRes) ∧ s.sem (barCell c) = 0)
    (hfin := fun c s' => by
      unfold Tₙ; rw [bufs_eq]
      iintro ⟨⟨⟨-, Hx, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => by
        obtain ⟨⟨hx, hy⟩, -⟩ := h c
        rw [V₂_arg] at hx; rw [V₂_res] at hy
        exact ⟨hx, hy⟩,
      sem_eq_zero hs fun c sm hsm => by
        obtain rfl := unscoped_bar sm hsm
        exact (h c).2⟩)

end Cert.KernelIdeal.Run

end
-- ==== Proof.Value.lean ====
/-
  The value claim: what the four devices compute is, block by block, what the reference computes.
-/
module

public import proofs.«01_k».proof.Defs
public import proofs.«01_k».proof.Proof.KernelIdealRun
public import proofs.«01_k».proof.Proof.Gen.ReferenceIdeal.Run
public import Idealize.ShloMosaic.Lib.Pointwise

@[expose] public section

noncomputable section

namespace Cert.Proof.Value

open Idealize.ShloMosaic Idealize.ShloMosaic.TcCoe Idealize.SL.Sem
open Cert.KernelIdeal Cert.KernelIdeal.Gen Cert.KernelIdeal.Run

/-! ## What a device computes -/

variable (m : (ℓ : Loc nD τ sig) → Buf (Elt Ideal) ℓ)

set_option maxRecDepth 16384 in
/-- The sums of 256 rows, read one by one. -/
theorem pay4_apply (x : Vec Ideal S1x256x768 .f32) (r : Fin 2) (l : Fin 128) :
    k0_pay4 (F := Ideal) x (ix2 r l)
      = ∑ j : Fin 768, x (ix3 (n0 := 1) (n1 := 256) (n2 := 768) 0 ⟨r.val * 128 + l.val, by omega⟩ j) := by
  pointwise [k0_pay4]

set_option maxRecDepth 16384 in
/-- The mean of two families of sums. -/
theorem pay1_apply (a b : Vec Ideal S12x128 .f32) (i : S12x128.Idx) :
    k0_pay1 (F := Ideal) a b i = (a i + b i) * ((1536⁻¹ : ℝ) : EReal) := by
  pointwise [k0_pay1]
  rw [IdealRules.named_const.ideal_named_scalar Cert.KernelIdeal.κ "inv_n" _ _ rfl]

set_option maxRecDepth 16384 in
/-- The reshape of the result: entry `i` is row `i / 128`, column `i % 128`. -/
theorem res_apply (y : Vec Ideal S12x128 .f32) (i : Fin 1536) (z : Fin 1) :
    shapeCast S1536x1 y shapeCasts_S12x128_S1536x1 (ix2 (n0 := 1536) (n1 := 1) i z)
      = y (ix2 (n0 := 12) (n1 := 128) ⟨i.val / 128, by omega⟩ ⟨i.val % 128, by omega⟩) := by
  pointwise

/-- A device's shard of the argument, as it finds it. -/
def shard (c : Dev nD) : (⟨2, ![1536, 768]⟩ : Shape).Idx → EReal := xin m c

/-- A device's row sums: entry `(r, l)` sums row `128 r + l` of its shard. -/
theorem acc_apply (c : Dev nD) (i : Fin 1536) :
    accV m c (ix2 (n0 := 12) (n1 := 128) ⟨i.val / 128, by omega⟩ ⟨i.val % 128, by omega⟩)
      = ∑ j : Fin 768, shard m c (ix2 (n0 := 1536) (n1 := 768) i j) := by
  refine (pay4_apply (blk m c ⟨i.val / 128 / 2, by omega⟩) ⟨i.val / 128 % 2, by omega⟩ ⟨i.val % 128, by omega⟩).trans ?_
  refine Finset.sum_congr rfl fun j _ => ?_
  show shard m c _ = _
  congr 2
  apply Fin.ext
  show 256 * (i.val / 128 / 2) + (i.val / 128 % 2 * 128 + i.val % 128) = i.val
  omega

/-- A device's result, row by row: the sums of its row and of its mate's, times `1 / 1536`. -/
theorem res_row (c : Dev nD) (i : Fin 1536) (z : Fin 1) :
    shapeCast S1536x1 (outV m c) shapeCasts_S12x128_S1536x1 (ix2 (n0 := 1536) (n1 := 1) i z)
      = ((∑ j : Fin 768, shard m c (ix2 (n0 := 1536) (n1 := 768) i j))
          + ∑ j : Fin 768, shard m (peer c) (ix2 (n0 := 1536) (n1 := 768) i j)) * ((1536⁻¹ : ℝ) : EReal) := by
  rw [res_apply]
  unfold outV
  rw [pay1_apply, acc_apply, acc_apply]

/-! ## What the reference computes -/

/-- The divisor's pattern is the number 1536. -/
theorem divisor : Ideal.ofBits .f32 0x44C00000#32 = ((1536 : ℝ) : EReal) := by
  simp [Ideal.ofBits, Ideal.ieee, -EReal.coe_mul]; norm_num

/-- The reference's result, as its operations spell it. -/
abbrev refV (w : (⟨2, ![3072, 1536]⟩ : Shape).Idx → EReal) : (⟨2, ![3072, 1]⟩ : Shape).Idx → EReal :=
  Host.divf (F := Ideal) (φ := .f32) (broadcastInDim Cert.ReferenceIdeal.S3072x1 ![0] Cert.ReferenceIdeal.Facts₀.bcast_S3072_S3072x1_0
      (Host.reduceAdd (φ := .f32) w (constant Cert.ReferenceIdeal.S_ .f32 0x00000000#32)
        Cert.ReferenceIdeal.Facts₀.reducesTo_S3072x1536_S3072_d1 Cert.ReferenceIdeal.Facts₀.h_S_))
    (broadcastInDim Cert.ReferenceIdeal.S3072x1 ![] Cert.ReferenceIdeal.Facts₀.bcast_S_S3072x1
      (constant Cert.ReferenceIdeal.S_ .f32 0x44C00000#32))

set_option maxRecDepth 16384 in
/-- The reference, row by row: the row's sum times `1 / 1536`. -/
theorem ref_row (w : (⟨2, ![3072, 1536]⟩ : Shape).Idx → EReal) (i : Fin 3072) (z : Fin 1) :
    refV w (ix2 (n0 := 3072) (n1 := 1) i z) = (∑ j : Fin 1536, w (ix2 i j)) * ((1536⁻¹ : ℝ) : EReal) := by
  unfold refV
  pointwise
  rw [divisor, Ideal.div_coe (by norm_num : (1536 : ℝ) ≠ 0), one_div]

/-! ## The two agree -/

/-- A device's place on the mesh: row `c / 2` of blocks, column `c % 2`. -/
theorem place (c : Dev nD) : ((Layout.meshBlock [2, 2] ![[0], [1]] c) 0).val = c.val / 2
    ∧ ((Layout.meshBlock [2, 2] ![[0], [1]] c) 1).val = c.val % 2 := by revert c; decide
/-- Its result is placed by the row alone. -/
theorem place_res (c : Dev nD) : ((Layout.meshBlock [2, 2] ![[0], []] c) 0).val = c.val / 2
    ∧ ((Layout.meshBlock [2, 2] ![[0], []] c) 1).val = 0 := by revert c; decide
/-- The mate is in the same row, in the other column. -/
theorem peer_place (c : Dev nD) : (peer c).val / 2 = c.val / 2 ∧ (peer c).val % 2 = 1 - c.val % 2 := by revert c; decide

/-- The sum of the left (`y = 0`) or right (`y = 1`) half of a row of the whole argument. -/
def half (w : (⟨2, ![3072, 1536]⟩ : Shape).Idx → EReal) (i : Fin 3072) (y : ℕ) (hy : y < 2) : EReal :=
  ∑ j : Fin 768, w (ix2 i ⟨y * 768 + j.val, by omega⟩)

/-- A row is its two halves. -/
theorem row_halves (w : (⟨2, ![3072, 1536]⟩ : Shape).Idx → EReal) (i : Fin 3072) :
    ∑ j : Fin 1536, w (ix2 i j) = half w i 0 (by decide) + half w i 1 (by decide) := by
  rw [Fin.sum_univ_two_halves 768 768 rfl]
  unfold half
  refine congrArg (· + _) (Finset.sum_congr rfl fun j _ => congrArg w (congrArg (ix2 i) (Fin.ext ?_)))
  show j.val = 0 * 768 + j.val
  omega

/-- A device's row sum is one half of a row of the whole argument. -/
theorem own_half (w : (⟨2, ![3072, 1536]⟩ : Shape).Idx → EReal) (c : Dev nD)
    (h : m ((c.tc : Thread nD τ).loc main_arg0) = Layout.blockN ⟨2, ![1536, 768]⟩ ⟨2, ![3072, 1536]⟩ (Layout.meshBlock [2, 2] ![[0], [1]] c) w)
    (i : Fin 1536) (q y : ℕ) (hq : q < 2) (hy : y < 2) (hcq : c.val / 2 = q) (hcy : c.val % 2 = y) :
    ∑ j : Fin 768, shard m c (ix2 (n0 := 1536) (n1 := 768) i j) = half w ⟨q * 1536 + i.val, by omega⟩ y hy := by
  subst hcq hcy
  unfold half
  refine Finset.sum_congr rfl fun j _ => ?_
  unfold shard xin
  rw [h, Layout.blockN_apply]
  congr 1
  funext a
  apply Fin.ext
  rw [Layout.TilesN.idx_val]
  match a with
  | ⟨0, _⟩ => exact congrArg (fun k => k * 1536 + i.val) (place c).1
  | ⟨1, _⟩ => exact congrArg (fun k => k * 768 + j.val) (place c).2

/-- A device's result is its block of the reference's. -/
theorem res_block (w : (⟨2, ![3072, 1536]⟩ : Shape).Idx → EReal)
    (h : ∀ c : Dev nD, m ((c.tc : Thread nD τ).loc main_arg0)
      = Layout.blockN ⟨2, ![1536, 768]⟩ ⟨2, ![3072, 1536]⟩ (Layout.meshBlock [2, 2] ![[0], [1]] c) w) (c : Dev nD) :
    shapeCast S1536x1 (outV m c) shapeCasts_S12x128_S1536x1
      = Layout.blockN ⟨2, ![1536, 1]⟩ ⟨2, ![3072, 1]⟩ (Layout.meshBlock [2, 2] ![[0], []] c) (refV w) := by
  funext ij
  obtain ⟨i, z, rfl⟩ : ∃ (i : Fin 1536) (z : Fin 1), ij = ix2 (n0 := 1536) (n1 := 1) i z := ⟨ij 0, ij 1, eq_ix2 ij⟩
  have hc : c.val / 2 < 2 := by have : c.val < 4 := c.isLt; omega
  have hp := peer_place c
  rw [res_row, Layout.blockN_apply]
  have e : Layout.TilesN.idx (S := ⟨2, ![1536, 1]⟩) (T := ⟨2, ![3072, 1]⟩) (by decide) (Layout.meshBlock [2, 2] ![[0], []] c)
      (ix2 (n0 := 1536) (n1 := 1) i z) = ix2 (n0 := 3072) (n1 := 1) ⟨c.val / 2 * 1536 + i.val, by omega⟩ z := by
    funext a
    apply Fin.ext
    rw [Layout.TilesN.idx_val]
    match a with
    | ⟨0, _⟩ => exact congrArg (fun k => k * 1536 + i.val) (place_res c).1
    | ⟨1, _⟩ => exact (congrArg (fun k => k * 1 + z.val) (place_res c).2).trans (by show 0 * 1 + z.val = z.val; omega)
  refine Eq.trans ?_ (congrArg (refV w) e).symm
  rw [ref_row, row_halves]
  refine congrArg (· * _) ?_
  rcases Nat.mod_two_eq_zero_or_one c.val with h0 | h1
  · rw [own_half m w c (h c) i _ 0 hc (by decide) rfl h0,
      own_half m w (peer c) (h (peer c)) i _ 1 hc (by decide) hp.1 (by rw [hp.2, h0])]
  · rw [own_half m w c (h c) i _ 1 hc (by decide) rfl h1,
      own_half m w (peer c) (h (peer c)) i _ 0 hc (by decide) hp.1 (by rw [hp.2, h1]), add_comm]

end Cert.Proof.Value

end
-- ==== Proof.lean ====
/-
  The claims of this directory, assembled: the runs come from `KernelRun` and `KernelIdealRun`, the values from `Value`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel in bits ends on every device, its argument unchanged and every counter zero. -/
theorem frame_kernel : Cert.quiescent_Kernel := fun m g _ =>
  (θ_run Cert.Kernel.defs _ _).mono (fun _ h => ⟨fun c => (h.1 c).1, h.2⟩) (Cert.Kernel.Run.run_main (F := Bits) m g)

/-- The same for the kernel on extended reals. -/
theorem frame_kernelIdeal : Cert.quiescent_KernelIdeal := fun m g _ =>
  (θ_run Cert.KernelIdeal.defs _ _).mono (fun _ h => ⟨fun c => (h.1 c).1, h.2⟩) (Cert.KernelIdeal.Run.run_main (F := Ideal) m g)

/-- The reference ends with its argument unchanged; it declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The constant the kernel multiplies by is read as `1 / 1536`. -/
theorem preserves : Cert.preserves_Kernel_KernelIdeal :=
  IdealRules.named_const.statement Cert.KernelIdeal.κ "inv_n" .f32 0x3A2AAAAB#32 ((1536⁻¹ : ℝ) : EReal) rfl

/-- Each device ends with its block of the row means of the whole argument. -/
theorem algebraic : Cert.algebraic_KernelIdeal_ReferenceIdeal := fun m g m' g' _ hm =>
  ⟨Value.refV (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Value.res_block m _ hm c), (h.1 c).1⟩) (Cert.KernelIdeal.Run.run_main (F := Ideal) m g),
    (θ_run Cert.ReferenceIdeal.defs _ _).mono (fun _ h => h 0) (Cert.ReferenceIdeal.Value.run (F := Ideal) m' g')⟩

/-- Everything this directory claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
